-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x384 : Shape := ⟨3, ![8, 256, 384]⟩
abbrev S8x1x256 : Shape := ⟨3, ![8, 1, 256]⟩
abbrev S8x192x384 : Shape := ⟨3, ![8, 192, 384]⟩
abbrev S8x1x192 : Shape := ⟨3, ![8, 1, 192]⟩
abbrev S8x192 : Shape := ⟨2, ![8, 192]⟩
abbrev S1x256x384 : Shape := ⟨3, ![1, 256, 384]⟩
abbrev S1x1x256 : Shape := ⟨3, ![1, 1, 256]⟩
abbrev S256x256 : Shape := ⟨2, ![256, 256]⟩
abbrev S256x384 : Shape := ⟨2, ![256, 384]⟩
abbrev S256 : Shape := ⟨1, ![256]⟩
abbrev S256x1 : Shape := ⟨2, ![256, 1]⟩
abbrev S1x256 : Shape := ⟨2, ![1, 256]⟩
abbrev S1x256x256 : Shape := ⟨3, ![1, 256, 256]⟩
abbrev S1 : Shape := ⟨1, ![1]⟩
abbrev S1x1x1 : Shape := ⟨3, ![1, 1, 1]⟩

abbrev nBuf : Space → Nat
  | .hbm => 9
  | .vmem => 9
  | .smem => 0
  | _ => 0

abbrev bufTy : (tb : Table) → Fin (tcTables nBuf tb) → BufTy
  | .hbm, ⟨0, _⟩ => ⟨S8x256x384, .f32⟩
  | .hbm, ⟨1, _⟩ => ⟨S8x256x384, .f32⟩
  | .hbm, ⟨2, _⟩ => ⟨S8x256x384, .f32⟩
  | .hbm, ⟨3, _⟩ => ⟨S8x1x256, .f32⟩
  | .hbm, ⟨4, _⟩ => ⟨S8x192x384, .f32⟩
  | .hbm, ⟨5, _⟩ => ⟨S8x1x192, .f32⟩
  | .hbm, ⟨6, _⟩ => ⟨S8x192, .f32⟩
  | .hbm, ⟨7, _⟩ => ⟨S8x192, .f32⟩
  | .hbm, ⟨8, _⟩ => ⟨S8x192, .i32⟩
  | .local _ .vmem, ⟨0, _⟩ => ⟨S1x256x384, .f32⟩
  | .local _ .vmem, ⟨1, _⟩ => ⟨S1x256x384, .f32⟩
  | .local _ .vmem, ⟨2, _⟩ => ⟨S1x256x384, .f32⟩
  | .local _ .vmem, ⟨3, _⟩ => ⟨S1x256x384, .f32⟩
  | .local _ .vmem, ⟨4, _⟩ => ⟨S1x256x384, .f32⟩
  | .local _ .vmem, ⟨5, _⟩ => ⟨S1x256x384, .f32⟩
  | .local _ .vmem, ⟨6, _⟩ => ⟨S1x1x256, .f32⟩
  | .local _ .vmem, ⟨7, _⟩ => ⟨S1x1x256, .f32⟩
  | .local _ .vmem, ⟨8, _⟩ => ⟨S256x256, .f32⟩
  | _, _ => ⟨S8x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_v0_0 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c64_i32 : BitVec 32 := 64#32
  let v22 : BitVec 32 := Scalar.addi c0_i32 c64_i32
  let c1_i32 : BitVec 32 := 1#32
  ⟨c0_i32, v22, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x256x384 : Shape := ⟨3, ![8, 256, 384]⟩
abbrev S256x256 : Shape := ⟨2, ![256, 256]⟩
abbrev S8x256 : Shape := ⟨2, ![8, 256]⟩
abbrev S8x32640 : Shape := ⟨2, ![8, 32640]⟩
abbrev S_ : Shape := ⟨0, ![]⟩
abbrev S65536 : Shape := ⟨1, ![65536]⟩
abbrev S32640 : Shape := ⟨1, ![32640]⟩
abbrev S1x32640 : Shape := ⟨2, ![1, 32640]⟩
abbrev S8x256x1 : Shape := ⟨3, ![8, 256, 1]⟩
abbrev S8x384x256 : Shape := ⟨3, ![8, 384, 256]⟩
abbrev S8x256x256 : Shape := ⟨3, ![8, 256, 256]⟩
abbrev S8x65536 : Shape := ⟨2, ![8, 65536]⟩
abbrev S8x32640x1 : Shape := ⟨3, ![8, 32640, 1]⟩
abbrev S1x256x256 : Shape := ⟨3, ![1, 256, 256]⟩
abbrev S8 : Shape := ⟨1, ![8]⟩
abbrev S8x1 : Shape := ⟨2, ![8, 1]⟩
abbrev S8x1x1 : Shape := ⟨3, ![8, 1, 1]⟩
abbrev S8x1x256 : Shape := ⟨3, ![8, 1, 256]⟩
abbrev S8x192 : Shape := ⟨2, ![8, 192]⟩
abbrev S8x192x1 : Shape := ⟨3, ![8, 192, 1]⟩
abbrev S8x192x256 : Shape := ⟨3, ![8, 192, 256]⟩
abbrev S8x192x384 : Shape := ⟨3, ![8, 192, 384]⟩

abbrev nBuf : Space → Nat
  | .hbm => 134
  | .vmem => 0
  | .smem => 0
  | _ => 0

abbrev hbmTy0_0 (i : Nat) : BufTy := match i % 128 with
  | 0 => ⟨S8x256x384, .f32⟩
  | 1 => ⟨S8x256x384, .f32⟩
  | 2 => ⟨S256x256, .i32⟩
  | 3 => ⟨S256x256, .i32⟩
  | 4 => ⟨S8x256, .i32⟩
  | 5 => ⟨S8x32640, .i32⟩
  | 6 => ⟨S256x256, .i1⟩
  | 7 => ⟨S_, .i32⟩
  | 8 => ⟨S256x256, .i32⟩
  | 9 => ⟨S256x256, .i32⟩
  | 10 => ⟨S256x256, .i32⟩
  | 11 => ⟨S_, .i32⟩
  | 12 => ⟨S256x256, .i32⟩
  | 13 => ⟨S256x256, .i32⟩
  | 14 => ⟨S65536, .i32⟩
  | 15 => ⟨S65536, .i32⟩
  | 16 => ⟨S32640, .i32⟩
  | 17 => ⟨S1x32640, .i32⟩
  | 18 => ⟨S8x32640, .i32⟩
  | 19 => ⟨S8x256x384, .f32⟩
  | 20 => ⟨S_, .f32⟩
  | 21 => ⟨S8x256, .f32⟩
  | 22 => ⟨S8x256x1, .f32⟩
  | 23 => ⟨S8x256x1, .f32⟩
  | 24 => ⟨S8x256x384, .f32⟩
  | 25 => ⟨S8x256x384, .f32⟩
  | 26 => ⟨S8x384x256, .f32⟩
  | 27 => ⟨S8x256x256, .f32⟩
  | 28 => ⟨S8x65536, .f32⟩
  | 29 => ⟨S8x32640x1, .i32⟩
  | 30 => ⟨S8x32640, .f32⟩
  | 31 => ⟨S8x32640, .f32⟩
  | 32 => ⟨S8x32640, .f32⟩
  | 33 => ⟨S8x32640, .i32⟩
  | 34 => ⟨S8x32640x1, .i32⟩
  | 35 => ⟨S8x32640, .i32⟩
  | 36 => ⟨S_, .i32⟩
  | 37 => ⟨S8x32640, .i32⟩
  | 38 => ⟨S8x32640, .i32⟩
  | 39 => ⟨S_, .i32⟩
  | 40 => ⟨S8x32640, .i32⟩
  | 41 => ⟨S8x32640, .i32⟩
  | 42 => ⟨S_, .i1⟩
  | 43 => ⟨S8x32640, .i1⟩
  | 44 => ⟨S256x256, .i1⟩
  | 45 => ⟨S1x256x256, .i1⟩
  | 46 => ⟨S8x256x256, .i1⟩
  | 47 => ⟨S_, .i32⟩
  | 48 => ⟨S_, .i32⟩
  | 49 => ⟨S8x32640, .i32⟩
  | 50 => ⟨S8x32640, .i32⟩
  | 51 => ⟨S8x32640, .i32⟩
  | 52 => ⟨S8x256, .i32⟩
  | 53 => ⟨S8x32640, .i32⟩
  | 54 => ⟨S_, .i32⟩
  | 55 => ⟨S_, .i32⟩
  | 56 => ⟨S8x32640, .i1⟩
  | 57 => ⟨S8x256x256, .i1⟩
  | 58 => ⟨S8x256, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S8x32640, .i32⟩
  | 66 => ⟨S8x32640, .i32⟩
  | 67 => ⟨S_, .i32⟩
  | 68 => ⟨S8, .i32⟩
  | 69 => ⟨S8x1, .i32⟩
  | 70 => ⟨S8x1x1, .i32⟩
  | 71 => ⟨S8x1, .i32⟩
  | 72 => ⟨S8x1x1, .i32⟩
  | 73 => ⟨S8x1, .i32⟩
  | 74 => ⟨S8x1x1, .i32⟩
  | 75 => ⟨S8x1, .i32⟩
  | 76 => ⟨S8x1x1, .i32⟩
  | 77 => ⟨S8x1, .i32⟩
  | 78 => ⟨S8x1x1, .i32⟩
  | 79 => ⟨S8x1x256, .i1⟩
  | 80 => ⟨S8x256, .i32⟩
  | 81 => ⟨S8x256, .i1⟩
  | 82 => ⟨S8x256x1, .i1⟩
  | 83 => ⟨S8x256x256, .i1⟩
  | 84 => ⟨S8x256x256, .i1⟩
  | 85 => ⟨S8x256x256, .i1⟩
  | 86 => ⟨S8x256x256, .i1⟩
  | 87 => ⟨S8x256, .i1⟩
  | 88 => ⟨S8x256, .i32⟩
  | 89 => ⟨S8x256, .i32⟩
  | 90 => ⟨S8x256, .i32⟩
  | 91 => ⟨S8x256, .i1⟩
  | 92 => ⟨S8x256x1, .i1⟩
  | 93 => ⟨S_, .i1⟩
  | 94 => ⟨S8x256x256, .i1⟩
  | 95 => ⟨S8x256x256, .i1⟩
  | 96 => ⟨S8x256x256, .i1⟩
  | 97 => ⟨S8x1x1, .i32⟩
  | 98 => ⟨S8x1x256, .i1⟩
  | 99 => ⟨S8x256, .i1⟩
  | 100 => ⟨S8x1x256, .i1⟩
  | 101 => ⟨S8x256x1, .i1⟩
  | 102 => ⟨S8x256x256, .i1⟩
  | 103 => ⟨S8x256x256, .i1⟩
  | 104 => ⟨S8x256x256, .i1⟩
  | 105 => ⟨S8x65536, .i1⟩
  | 106 => ⟨S8x32640x1, .i32⟩
  | 107 => ⟨S8x32640, .i1⟩
  | 108 => ⟨S8x32640, .i1⟩
  | 109 => ⟨S8x32640, .i1⟩
  | 110 => ⟨S_, .i32⟩
  | 111 => ⟨S_, .i32⟩
  | 112 => ⟨S8x256x256, .i32⟩
  | 113 => ⟨S_, .i32⟩
  | 114 => ⟨S8x256, .i32⟩
  | 115 => ⟨S_, .i32⟩
  | 116 => ⟨S8x256, .i32⟩
  | 117 => ⟨S8x256, .i1⟩
  | 118 => ⟨S8x256, .i1⟩
  | 119 => ⟨S8x256, .i32⟩
  | 120 => ⟨S8x256, .i1⟩
  | 121 => ⟨S8x256, .i32⟩
  | 122 => ⟨S8x192, .i32⟩
  | 123 => ⟨S8x192x1, .i32⟩
  | 124 => ⟨S8x192x256, .i1⟩
  | 125 => ⟨S8x192x256, .i32⟩
  | 126 => ⟨S_, .i32⟩
  | 127 => ⟨S8x192, .i32⟩
  | _ => ⟨S8x256x384, .f32⟩

abbrev hbmTy0_1 (i : Nat) : BufTy := match i % 128 with
  | 0 => ⟨S8x192x256, .f32⟩
  | 1 => ⟨S8x192x1, .i32⟩
  | 2 => ⟨S8x192x1, .f32⟩
  | 3 => ⟨S8x192x256, .f32⟩
  | 4 => ⟨S8x192x256, .f32⟩
  | 5 => ⟨S8x192x384, .f32⟩
  | _ => ⟨S8x256x384, .f32⟩

abbrev hbmTy (i : Nat) : BufTy := match i / 128 with
  | 0 => hbmTy0_0 i
  | 1 => hbmTy0_1 i
  | _ => ⟨S8x256x384, .f32⟩

abbrev bufTy : (tb : Table) → Fin (tcTables nBuf tb) → BufTy
  | .hbm, ⟨i, _⟩ => hbmTy i
  | _, _ => ⟨S8x256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27_0 : Ref sig .tc := ⟨.hbm, 32, rfl⟩
abbrev main_v27_1 : Ref sig .tc := ⟨.hbm, 33, rfl⟩
abbrev main_v28 : Ref sig .tc := ⟨.hbm, 34, rfl⟩
abbrev main_v29 : Ref sig .tc := ⟨.hbm, 35, rfl⟩
abbrev main_c_1 : Ref sig .tc := ⟨.hbm, 36, rfl⟩
abbrev main_v30 : Ref sig .tc := ⟨.hbm, 37, rfl⟩
abbrev main_v31 : Ref sig .tc := ⟨.hbm, 38, rfl⟩
abbrev main_c_2 : Ref sig .tc := ⟨.hbm, 39, rfl⟩
abbrev main_v32 : Ref sig .tc := ⟨.hbm, 40, rfl⟩
abbrev main_v33 : Ref sig .tc := ⟨.hbm, 41, rfl⟩
abbrev main_c_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_4 : Ref sig .tc := ⟨.hbm, 47, rfl⟩
abbrev main_c_5 : Ref sig .tc := ⟨.hbm, 48, rfl⟩
abbrev main_v38_0 : Ref sig .tc := ⟨.hbm, 49, rfl⟩
abbrev main_v38_1 : Ref sig .tc := ⟨.hbm, 50, rfl⟩
abbrev main_v38_2 : Ref sig .tc := ⟨.hbm, 51, rfl⟩
abbrev main_v38_3 : Ref sig .tc := ⟨.hbm, 52, rfl⟩
abbrev main_v38_4 : Ref sig .tc := ⟨.hbm, 53, rfl⟩
abbrev main_v38_5 : Ref sig .tc := ⟨.hbm, 54, rfl⟩
abbrev main_v38_6 : Ref sig .tc := ⟨.hbm, 55, rfl⟩
abbrev main_v38_7 : Ref sig .tc := ⟨.hbm, 56, rfl⟩
abbrev main_v38_8 : Ref sig .tc := ⟨.hbm, 57, rfl⟩
abbrev main_v38_9 : Ref sig .tc := ⟨.hbm, 58, rfl⟩
abbrev main_while0c_c_18 : Ref sig .tc := ⟨.hbm, 59, rfl⟩
abbrev main_while0c_v56 : Ref sig .tc := ⟨.hbm, 60, rfl⟩
abbrev main_while0b_c_18 : Ref sig .tc := ⟨.hbm, 61, rfl⟩
abbrev main_while0b_v56 : Ref sig .tc := ⟨.hbm, 62, rfl⟩
abbrev main_while0b_c_19 : Ref sig .tc := ⟨.hbm, 63, rfl⟩
abbrev main_while0b_call0_v0 : Ref sig .tc := ⟨.hbm, 64, rfl⟩
abbrev main_while0b_call0_v1 : Ref sig .tc := ⟨.hbm, 65, rfl⟩
abbrev main_while0b_v57 : Ref sig .tc := ⟨.hbm, 66, rfl⟩
abbrev main_while0b_c_20 : Ref sig .tc := ⟨.hbm, 67, rfl⟩
abbrev main_while0b_v58 : Ref sig .tc := ⟨.hbm, 68, rfl⟩
abbrev main_while0b_v59 : Ref sig .tc := ⟨.hbm, 69, rfl⟩
abbrev main_while0b_v60 : Ref sig .tc := ⟨.hbm, 70, rfl⟩
abbrev main_while0b_v61 : Ref sig .tc := ⟨.hbm, 71, rfl⟩
abbrev main_while0b_v62 : Ref sig .tc := ⟨.hbm, 72, rfl⟩
abbrev main_while0b_v63 : Ref sig .tc := ⟨.hbm, 73, rfl⟩
abbrev main_while0b_v64 : Ref sig .tc := ⟨.hbm, 74, rfl⟩
abbrev main_while0b_v65 : Ref sig .tc := ⟨.hbm, 75, rfl⟩
abbrev main_while0b_v66 : Ref sig .tc := ⟨.hbm, 76, rfl⟩
abbrev main_while0b_v67 : Ref sig .tc := ⟨.hbm, 77, rfl⟩
abbrev main_while0b_v68 : Ref sig .tc := ⟨.hbm, 78, rfl⟩
abbrev main_while0b_v69 : Ref sig .tc := ⟨.hbm, 79, rfl⟩
abbrev main_while0b_v70 : Ref sig .tc := ⟨.hbm, 80, rfl⟩
abbrev main_while0b_v71 : Ref sig .tc := ⟨.hbm, 81, rfl⟩
abbrev main_while0b_v72 : Ref sig .tc := ⟨.hbm, 82, rfl⟩
abbrev main_while0b_v73 : Ref sig .tc := ⟨.hbm, 83, rfl⟩
abbrev main_while0b_v74 : Ref sig .tc := ⟨.hbm, 84, rfl⟩
abbrev main_while0b_call1_v0 : Ref sig .tc := ⟨.hbm, 85, rfl⟩
abbrev main_while0b_v75 : Ref sig .tc := ⟨.hbm, 86, rfl⟩
abbrev main_while0b_v76 : Ref sig .tc := ⟨.hbm, 87, rfl⟩
abbrev main_while0b_call2_v0 : Ref sig .tc := ⟨.hbm, 88, rfl⟩
abbrev main_while0b_v77 : Ref sig .tc := ⟨.hbm, 89, rfl⟩
abbrev main_while0b_v78 : Ref sig .tc := ⟨.hbm, 90, rfl⟩
abbrev main_while0b_v79 : Ref sig .tc := ⟨.hbm, 91, rfl⟩
abbrev main_while0b_v80 : Ref sig .tc := ⟨.hbm, 92, rfl⟩
abbrev main_while0b_c_21 : Ref sig .tc := ⟨.hbm, 93, rfl⟩
abbrev main_while0b_call3_v0 : Ref sig .tc := ⟨.hbm, 94, rfl⟩
abbrev main_while0b_call3_v1 : Ref sig .tc := ⟨.hbm, 95, rfl⟩
abbrev main_while0b_v81 : Ref sig .tc := ⟨.hbm, 96, rfl⟩
abbrev main_while0b_v82 : Ref sig .tc := ⟨.hbm, 97, rfl⟩
abbrev main_while0b_v83 : Ref sig .tc := ⟨.hbm, 98, rfl⟩
abbrev main_while0b_v84 : Ref sig .tc := ⟨.hbm, 99, rfl⟩
abbrev main_while0b_v85 : Ref sig .tc := ⟨.hbm, 100, rfl⟩
abbrev main_while0b_v86 : Ref sig .tc := ⟨.hbm, 101, rfl⟩
abbrev main_while0b_v87 : Ref sig .tc := ⟨.hbm, 102, rfl⟩
abbrev main_while0b_v88 : Ref sig .tc := ⟨.hbm, 103, rfl⟩
abbrev main_while0b_v89 : Ref sig .tc := ⟨.hbm, 104, rfl⟩
abbrev main_while0b_v90 : Ref sig .tc := ⟨.hbm, 105, rfl⟩
abbrev main_while0b_v91 : Ref sig .tc := ⟨.hbm, 106, rfl⟩
abbrev main_while0b_v92 : Ref sig .tc := ⟨.hbm, 107, rfl⟩
abbrev main_while0b_v93 : Ref sig .tc := ⟨.hbm, 108, rfl⟩
abbrev main_while0b_v94 : Ref sig .tc := ⟨.hbm, 109, rfl⟩
abbrev main_while0b_c_22 : Ref sig .tc := ⟨.hbm, 110, rfl⟩
abbrev main_while0b_v95 : Ref sig .tc := ⟨.hbm, 111, rfl⟩
abbrev main_v39 : Ref sig .tc := ⟨.hbm, 112, rfl⟩
abbrev main_c_6 : Ref sig .tc := ⟨.hbm, 113, rfl⟩
abbrev main_v40 : Ref sig .tc := ⟨.hbm, 114, rfl⟩
abbrev main_c_7 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_call4_v0 : Ref sig .tc := ⟨.hbm, 119, rfl⟩
abbrev main_call4_v1_0 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_c_8 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩

abbrev nD : Nat := 1
abbrev τ : Topo := Topo.v7x

variable {F : FTy → Type} [FloatOps F]

abbrev main_while0_count : Scf.Loop 32 := ⟨0#32, 64#32, 1#32⟩
-- ==== Proof.Greedy.lean ====
/- Greedy merging on 256 nodes, as plain mathematics: the best pair of nodes in different groups, one merge, the sequence of
   merges, and how many groups are left. No program is mentioned here. -/
module

public import Mathlib.Data.EReal.Basic
public import Mathlib.Data.Fintype.Card
public import Mathlib.Data.Fintype.EquivFin
public import Mathlib.Data.Fintype.Prod
public import Mathlib.Data.Finset.Max
public import Mathlib.Data.Finset.Card
public import Mathlib.Data.Finset.Sort
public import Mathlib.Order.Interval.Finset.Fin
public import Mathlib.Tactic.Linarith
public import Mathlib.Tactic.Push

@[expose] public section

noncomputable section

namespace Cert.Greedy

/-- A node, and equally a group's label: the label of a group is the number of one of the nodes. -/
abbrev Node := Fin 256

/-- The place of the pair `(a, b)` in a row-major 256 x 256 matrix. -/
def lin (a b : Node) : ℕ := a.val * 256 + b.val

theorem lin_inj {a b c d : Node} (h : lin a b = lin c d) : a = c ∧ b = d := by
  unfold lin at h
  constructor <;> apply Fin.ext <;> omega

theorem lin_lt (a b : Node) : lin a b < 65536 := by unfold lin; omega

/-- `(i, j)` is the pair the greedy step merges: `i < j` lie in different groups, their score is the largest among such pairs, and
    of the pairs with that score it comes first in row-major order. -/
structure Best (S : Node → Node → EReal) (gid : Node → Node) (i j : Node) : Prop where
  lt : i < j
  ne : gid i ≠ gid j
  best : ∀ a b, a < b → gid a ≠ gid b → S a b < S i j ∨ (S a b = S i j ∧ lin i j ≤ lin a b)

/-- There is at most one best pair. -/
theorem Best.unique {S : Node → Node → EReal} {gid : Node → Node} {i j i' j' : Node} (h : Best S gid i j) (h' : Best S gid i' j') :
    i = i' ∧ j = j' := by
  rcases h.best i' j' h'.lt h'.ne with h1 | ⟨h1, h2⟩
  · rcases h'.best i j h.lt h.ne with h3 | ⟨h3, _⟩
    · exact absurd h3 (not_lt.2 h1.le)
    · rw [h3] at h1; exact absurd h1 (lt_irrefl _)
  · rcases h'.best i j h.lt h.ne with h3 | ⟨_, h4⟩
    · rw [h1] at h3; exact absurd h3 (lt_irrefl _)
    · exact lin_inj (le_antisymm h2 h4)

/-- Where two nodes lie in different groups there is a best pair. -/
theorem exists_best (S : Node → Node → EReal) (gid : Node → Node) (h : ∃ a b, a < b ∧ gid a ≠ gid b) : ∃ i j, Best S gid i j := by
  classical
  let A : Finset (Node × Node) := Finset.univ.filter fun p => p.1 < p.2 ∧ gid p.1 ≠ gid p.2
  have hA : A.Nonempty := by obtain ⟨a, b, h⟩ := h; exact ⟨(a, b), by simp [A, h]⟩
  obtain ⟨p, hp, hmax⟩ := A.exists_max_image (fun p => S p.1 p.2) hA
  let B : Finset (Node × Node) := A.filter fun q => S q.1 q.2 = S p.1 p.2
  obtain ⟨q, hq, hmin⟩ := B.exists_min_image (fun q => lin q.1 q.2) ⟨p, by simp [B, hp]⟩
  have hq' := (Finset.mem_filter.1 hq)
  have hqA := (Finset.mem_filter.1 hq'.1).2
  refine ⟨q.1, q.2, hqA.1, hqA.2, fun a b hab hne => ?_⟩
  have hmem : (a, b) ∈ A := by simp [A, hab, hne]
  rcases (hmax (a, b) hmem).lt_or_eq with h1 | h1
  · left; rw [hq'.2]; exact h1
  · right; exact ⟨by rw [hq'.2]; exact h1, hmin (a, b) (Finset.mem_filter.2 ⟨hmem, h1⟩)⟩

/-- Joining the group of `i` to the group of `j`, under the latter's label. -/
def merge (gid : Node → Node) (i j : Node) : Node → Node := fun n => if gid n = gid i then gid j else gid n

open Classical in
/-- One greedy step: the best pair's groups are joined (with one group left, nothing happens). -/
def next (S : Node → Node → EReal) (gid : Node → Node) : Node → Node :=
  if h : ∃ p : Node × Node, Best S gid p.1 p.2 then merge gid h.choose.1 h.choose.2 else gid

theorem next_eq {S : Node → Node → EReal} {gid : Node → Node} {i j : Node} (h : Best S gid i j) : next S gid = merge gid i j := by
  have hex : ∃ p : Node × Node, Best S gid p.1 p.2 := ⟨(i, j), h⟩
  unfold next
  rw [dif_pos hex]
  obtain ⟨h1, h2⟩ := hex.choose_spec.unique h
  rw [h1, h2]

/-- Every node's group after `t` greedy steps from the singletons. -/
def gids (S : Node → Node → EReal) : ℕ → Node → Node
  | 0 => id
  | t + 1 => next S (gids S t)

/-- The labels in use. -/
def labels (gid : Node → Node) : Finset Node := Finset.univ.image gid

theorem mem_labels {gid : Node → Node} {g : Node} : g ∈ labels gid ↔ ∃ n, gid n = g := by simp [labels]

theorem card_merge (gid : Node → Node) (i j : Node) : (labels gid).card - 1 ≤ (labels (merge gid i j)).card := by
  refine le_trans (Finset.pred_card_le_card_erase (a := gid i)) (Finset.card_le_card fun g hg => ?_)
  obtain ⟨hne, hg⟩ := Finset.mem_erase.1 hg
  obtain ⟨n, -, rfl⟩ := Finset.mem_image.1 hg
  exact Finset.mem_image.2 ⟨n, Finset.mem_univ _, if_neg hne⟩

/-- After `t` steps at least `256 - t` groups are left. -/
theorem card_gids (S : Node → Node → EReal) (t : ℕ) : 256 - t ≤ (labels (gids S t)).card := by
  induction t with
  | zero => simp [gids, labels]
  | succ t ih =>
    have : (labels (gids S t)).card - 1 ≤ (labels (gids S (t + 1))).card := by
      show _ ≤ (labels (next S (gids S t))).card
      unfold next
      split
      · exact card_merge ..
      · omega
    omega

/-- Scores that exceed `L` between any two nodes of one kind, of two kinds of nodes. -/
def Above (S : Node → Node → EReal) (L : EReal) : Prop :=
  ∃ z : Node → Prop, ∀ a b, (z a ↔ z b) → L < S a b

theorem iff_of_not_iff {p q r : Prop} (h1 : ¬ (p ↔ q)) (h2 : ¬ (p ↔ r)) : q ↔ r := by
  by_cases p <;> by_cases q <;> by_cases r <;> simp_all

/-- With three groups or more, two nodes in different groups have a score above `L`: two of any three nodes are of one kind. -/
theorem Above.two {S : Node → Node → EReal} {L : EReal} (h : Above S L) {gid : Node → Node} (hc : 3 ≤ (labels gid).card) :
    ∃ a b, a < b ∧ gid a ≠ gid b ∧ L < S a b := by
  obtain ⟨z, hz⟩ := h
  have h2 : 2 < (labels gid).card := hc
  rw [Finset.two_lt_card] at h2
  obtain ⟨x, hx, y, hy, w, hw, hxy, hxw, hyw⟩ := h2
  obtain ⟨a, rfl⟩ := mem_labels.1 hx
  obtain ⟨b, rfl⟩ := mem_labels.1 hy
  obtain ⟨c, rfl⟩ := mem_labels.1 hw
  have key : ∀ a b, gid a ≠ gid b → (z a ↔ z b) → ∃ a b, a < b ∧ gid a ≠ gid b ∧ L < S a b := fun a b hne hzz => by
    rcases lt_trichotomy a b with h | h | h
    · exact ⟨a, b, h, hne, hz a b hzz⟩
    · exact absurd (congrArg gid h) hne
    · exact ⟨b, a, h, hne.symm, hz b a hzz.symm⟩
  by_cases h1 : z a ↔ z b
  · exact key a b hxy h1
  · by_cases h2 : z a ↔ z c
    · exact key a c hxw h2
    · exact key b c hyw (iff_of_not_iff h1 h2)

/-- At each of the 64 steps there is a best pair, and its score is above `L`. -/
theorem Above.best {S : Node → Node → EReal} {L : EReal} (h : Above S L) {t : ℕ} (ht : t < 64) :
    ∃ i j, Best S (gids S t) i j ∧ L < S i j := by
  have hc := card_gids S t
  have h3 : 3 ≤ (labels (gids S t)).card := le_trans (by omega) hc
  obtain ⟨a, b, hab, hne, hL⟩ := Above.two h h3
  obtain ⟨i, j, hb⟩ := exists_best S (gids S t) ⟨a, b, hab, hne⟩
  refine ⟨i, j, hb, ?_⟩
  rcases hb.best a b hab hne with h1 | ⟨h1, _⟩
  · exact hL.trans h1
  · exact h1 ▸ hL

/-! ## A score matrix with the pairs inside one group masked -/

/-- The scores of the pairs `a < b` in different groups; everything else holds `L`. -/
def masked (S : Node → Node → EReal) (L : EReal) (gid : Node → Node) (a b : Node) : EReal :=
  if a < b ∧ gid a ≠ gid b then S a b else L

/-- The best pair's entry is the largest of the masked matrix. -/
theorem Best.masked_le {S : Node → Node → EReal} {L : EReal} {gid : Node → Node} {i j : Node} (h : Best S gid i j) (hL : L < S i j)
    (a b : Node) : masked S L gid a b ≤ S i j := by
  unfold masked
  split
  · next hab =>
    rcases h.best a b hab.1 hab.2 with h1 | ⟨h1, _⟩
    · exact h1.le
    · exact h1.le
  · exact hL.le

theorem Best.masked_self {S : Node → Node → EReal} {L : EReal} {gid : Node → Node} {i j : Node} (h : Best S gid i j) :
    masked S L gid i j = S i j := if_pos ⟨h.lt, h.ne⟩

/-- No entry that equals the largest one comes before the best pair's. -/
theorem Best.lin_le {S : Node → Node → EReal} {L : EReal} {gid : Node → Node} {i j : Node} (h : Best S gid i j) (hL : L < S i j)
    (a b : Node) (hab : masked S L gid a b = S i j) : lin i j ≤ lin a b := by
  unfold masked at hab
  split at hab
  · next h' =>
    rcases h.best a b h'.1 h'.2 with h1 | ⟨_, h1⟩
    · exact absurd h1 (by rw [hab]; exact lt_irrefl _)
    · exact h1
  · exact absurd hL (by rw [hab]; exact lt_irrefl _)

/-- Two nodes in different groups after a merge were in different groups before. -/
theorem merge_ne {gid : Node → Node} {i j a b : Node} (h : merge gid i j a ≠ merge gid i j b) : gid a ≠ gid b := fun h' => by
  unfold merge at h; rw [h'] at h; exact h rfl

/-- Two nodes that a merge brings into one group are then both in the group of `j`. -/
theorem merge_eq {gid : Node → Node} {i j a b : Node} (h : merge gid i j a = merge gid i j b) (hne : gid a ≠ gid b) :
    merge gid i j a = gid j ∧ merge gid i j b = gid j := by
  unfold merge at h ⊢
  by_cases h1 : gid a = gid i
  · rw [if_pos h1] at h ⊢; exact ⟨rfl, h.symm⟩
  · rw [if_neg h1] at h ⊢
    by_cases h2 : gid b = gid i
    · rw [if_pos h2] at h ⊢; exact ⟨h, rfl⟩
    · rw [if_neg h2] at h; exact absurd h hne

/-- Masking the pairs inside the group just made is all that a merge changes in the masked matrix. -/
theorem masked_merge (S : Node → Node → EReal) (L : EReal) (gid : Node → Node) (i j a b : Node) :
    masked S L (merge gid i j) a b
      = if merge gid i j a = gid j ∧ merge gid i j b = gid j then L else masked S L gid a b := by
  unfold masked
  by_cases h : merge gid i j a = gid j ∧ merge gid i j b = gid j
  · rw [if_pos h, if_neg fun h' => h'.2 (h.1.trans h.2.symm)]
  · rw [if_neg h]
    by_cases h1 : a < b ∧ gid a ≠ gid b
    · rw [if_pos h1, if_pos ⟨h1.1, fun h2 => h (merge_eq h2 h1.2)⟩]
    · rw [if_neg h1, if_neg fun h2 => h1 ⟨h2.1, merge_ne h2.2⟩]

/-! ## The groups left at the end -/

/-- How many nodes carry the label `g`. -/
def count (gid : Node → Node) (g : Node) : ℕ := (Finset.univ.filter fun n => gid n = g).card

theorem count_pos {gid : Node → Node} {g : Node} : 0 < count gid g ↔ g ∈ labels gid := by
  unfold count labels
  rw [Finset.card_pos, Finset.Nonempty]
  simp

theorem count_le (gid : Node → Node) (g : Node) : count gid g ≤ 256 := by
  unfold count
  exact le_trans (Finset.card_le_univ _) (by simp)

/-- How many labels below `g` are in use. -/
def rank (gid : Node → Node) (g : Node) : ℕ := ((labels gid).filter fun h => h < g).card

/-- The label `g` is in use, with `r` labels in use below it. -/
def IsNth (gid : Node → Node) (r : ℕ) (g : Node) : Prop := g ∈ labels gid ∧ rank gid g = r

theorem rank_lt {gid : Node → Node} {g h : Node} (hg : g ∈ labels gid) (hlt : g < h) : rank gid g < rank gid h := by
  unfold rank
  refine Finset.card_lt_card ⟨fun x hx => ?_, fun hsub => ?_⟩
  · obtain ⟨h1, h2⟩ := Finset.mem_filter.1 hx
    exact Finset.mem_filter.2 ⟨h1, h2.trans hlt⟩
  · exact lt_irrefl g (Finset.mem_filter.1 (hsub (Finset.mem_filter.2 ⟨hg, hlt⟩))).2

/-- A rank names at most one label. -/
theorem IsNth.unique {gid : Node → Node} {r : ℕ} {g h : Node} (hg : IsNth gid r g) (hh : IsNth gid r h) : g = h := by
  rcases lt_trichotomy g h with h1 | h1 | h1
  · have := rank_lt hg.1 h1; rw [hg.2, hh.2] at this; exact absurd this (lt_irrefl _)
  · exact h1
  · have := rank_lt hh.1 h1; rw [hg.2, hh.2] at this; exact absurd this (lt_irrefl _)

/-- Every rank below the number of labels in use names one. -/
theorem exists_isNth {gid : Node → Node} {r : ℕ} (hr : r < (labels gid).card) : ∃ g, IsNth gid r g := by
  refine ⟨(labels gid).orderEmbOfFin rfl ⟨r, hr⟩, Finset.orderEmbOfFin_mem .., ?_⟩
  unfold rank
  have : ((labels gid).filter fun h => h < (labels gid).orderEmbOfFin rfl ⟨r, hr⟩)
      = (Finset.univ.filter fun k : Fin (labels gid).card => k < ⟨r, hr⟩).map ((labels gid).orderEmbOfFin rfl).toEmbedding := by
    ext x
    simp only [Finset.mem_filter, Finset.mem_map, Finset.mem_univ, true_and]
    constructor
    · rintro ⟨h1, h2⟩
      have : x ∈ Set.range ((labels gid).orderEmbOfFin rfl) := by rw [Finset.range_orderEmbOfFin]; exact h1
      obtain ⟨k, rfl⟩ := this
      exact ⟨k, by simpa using h2, rfl⟩
    · rintro ⟨k, h1, rfl⟩
      exact ⟨Finset.orderEmbOfFin_mem .., by simpa using h1⟩
  rw [this, Finset.card_map]
  refine Eq.trans ?_ (Fin.card_Iio (⟨r, hr⟩ : Fin (labels gid).card))
  exact congrArg Finset.card (by ext; simp)

end Cert.Greedy

end
-- ==== Proof.Score.lean ====
/-
  The scores of the nodes: each row of the keys is divided by its Euclidean norm, and the score of two nodes is the product of
  their rows. Stated over the extended reals, together with the one fact the greedy steps need: among the nodes whose norm is
  zero, and among those whose norm is not, every score lies above the marker the kernel writes over a masked pair.
-/
module

public import Idealize.ShloMosaic.PureOps.Ideal
public import Idealize.ShloMosaic.PureOps.Ideal.Laws
public import proofs.«01_k».proof.Proof.Greedy

@[expose] public section

noncomputable section

namespace Cert.Greedy

open Idealize.ShloMosaic

/-- The rows of one member of the batch. -/
abbrev Rows := Node → Fin 384 → EReal

/-- The Euclidean norm of a row. -/
def norm (x : Rows) (a : Node) : EReal := Ideal.sqrt (∑ d, x a d * x a d)

/-- A row divided by its norm. -/
def unit (x : Rows) (a : Node) (d : Fin 384) : EReal := Ideal.div (x a d) (norm x a)

/-- The score of two nodes: the product of their normalised rows. -/
def score (x : Rows) (a b : Node) : EReal := ∑ d, unit x a d * unit x b d

/-- The marker of a masked pair: the single-precision number next to `-3e38`. -/
def marker : EReal := Ideal.ofBits .f32 0xFF61B1E6#32

/-- The marker lies below `-384`. -/
theorem marker_lt : marker < ((-384 : ℝ) : EReal) := by
  unfold marker
  simp [Ideal.ofBits, Ideal.ieee, -EReal.coe_mul, -EReal.coe_neg]
  norm_num [-EReal.coe_mul, -EReal.coe_neg]

/-- A square is not negative. -/
theorem sq_nonneg' (y : EReal) : 0 ≤ y * y := by
  induction y with
  | bot => simp
  | top => simp
  | coe r => rw [← EReal.coe_mul]; exact_mod_cast mul_self_nonneg r

/-- A summand that is not negative is at most the sum. -/
theorem le_sum {f : Fin 384 → EReal} (h : ∀ d, 0 ≤ f d) (d : Fin 384) : f d ≤ ∑ e, f e :=
  Finset.single_le_sum (f := f) (fun e _ => h e) (Finset.mem_univ d)

/-- A sum of reals is the same in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row of norm zero is zero. -/
theorem row_zero {x : Rows} {a : Node} (h : norm x a = 0) (d : Fin 384) : x a d = 0 := by
  have h0 : (0 : EReal) ≤ ∑ d, x a d * x a d := Finset.sum_nonneg fun e _ => sq_nonneg' _
  have hs : ∑ d, x a d * x a d = 0 := by
    unfold norm at h
    generalize (∑ d, x a d * x a d) = s at h h0
    induction s with
    | bot => simp at h0
    | top => simp at h
    | coe r =>
      have hr : 0 ≤ r := by exact_mod_cast h0
      rw [Ideal.sqrt_coe, if_neg (not_lt.mpr hr)] at h
      have : Real.sqrt r = 0 := by exact_mod_cast h
      have := (Real.sqrt_eq_zero hr).mp this
      simp [this]
  have := le_sum (f := fun d => x a d * x a d) (fun e => sq_nonneg' _) d
  rw [hs] at this
  have h1 := le_antisymm this (sq_nonneg' _)
  simpa using h1

/-- A normalised row of norm zero is the least value throughout. -/
theorem unit_of_zero {x : Rows} {a : Node} (h : norm x a = 0) (d : Fin 384) : unit x a d = ⊥ := by
  simp [unit, Ideal.div, h, row_zero h d]

/-- A normalised row of norm not zero has real entries between `-1` and `1`. -/
theorem unit_of_ne {x : Rows} {a : Node} (h : norm x a ≠ 0) (d : Fin 384) :
    ∃ r : ℝ, |r| ≤ 1 ∧ unit x a d = (r : EReal) := by
  have h0 : (0 : EReal) ≤ ∑ d, x a d * x a d := Finset.sum_nonneg fun e _ => sq_nonneg' _
  have hd := le_sum (f := fun d => x a d * x a d) (fun e => sq_nonneg' _) d
  rw [unit, Ideal.div, if_neg h]
  unfold norm at h ⊢
  generalize (∑ d, x a d * x a d) = s at h h0 hd
  generalize x a d = y at hd
  induction s with
  | bot => simp at h0
  | top => exact ⟨0, by simp, by simp⟩
  | coe r =>
    have hr : 0 ≤ r := by exact_mod_cast h0
    rw [Ideal.sqrt_coe, if_neg (not_lt.mpr hr)] at h ⊢
    induction y with
    | bot => simp at hd
    | top => simp at hd
    | coe y =>
      have hy : y * y ≤ r := by exact_mod_cast hd
      refine ⟨y * (Real.sqrt r)⁻¹, ?_, by rw [← EReal.coe_inv, ← EReal.coe_mul]⟩
      have hs : 0 < Real.sqrt r := lt_of_le_of_ne (Real.sqrt_nonneg r) fun e => h (by rw [← e]; rfl)
      rw [abs_mul, abs_of_pos (inv_pos.mpr hs), ← div_eq_mul_inv, div_le_one hs]
      exact Real.abs_le_sqrt (by nlinarith)

/-- The scores lie above the marker within the rows of norm zero and within the others. -/
theorem above_score (x : Rows) : Above (score x) marker := by
  refine ⟨fun a => norm x a = 0, fun a b h => ?_⟩
  by_cases ha : norm x a = 0
  · have hb := h.mp ha
    have : score x a b = ⊤ := by
      unfold score
      simp only [unit_of_zero ha, unit_of_zero hb, EReal.bot_mul_bot]
      refine top_unique (le_trans (le_of_eq ?_) (le_sum (f := fun _ => ⊤) (fun _ => le_top) 0))
      rfl
    rw [this]
    exact lt_of_lt_of_le marker_lt le_top
  · have hb : ¬ norm x b = 0 := fun e => ha (h.mpr e)
    choose r hr er using unit_of_ne ha
    choose q hq eq using unit_of_ne hb
    refine lt_of_lt_of_le marker_lt ?_
    unfold score
    simp only [er, eq, ← EReal.coe_mul]
    rw [← coe_sum]
    refine EReal.coe_le_coe_iff.mpr ?_
    have : ∑ _d : Fin 384, (-1 : ℝ) ≤ ∑ d, r d * q d := Finset.sum_le_sum fun d _ => by
      have : |r d * q d| ≤ 1 := by
        rw [abs_mul]; exact mul_le_one₀ (hr d) (abs_nonneg _) (hq d)
      exact (abs_le.mp this).1
    simpa using this

end Cert.Greedy

end
-- ==== Proof.Words.lean ====
/-
  Nodes, labels and places of pairs as 32-bit words, and three folds: the least of a family of words, the sum of a family of words
  with one that is not zero, and the largest of a family of extended reals.
-/
module

public import proofs.«01_k».proof.Proof.Score
public import Idealize.ShloMosaic.Lib.WordArith
public import Idealize.ShloMosaic.Lib.Routing.Words
public import Idealize.ShloMosaic.Lib.Pointwise

@[expose] public section

noncomputable section

namespace Cert.Greedy

open Idealize.ShloMosaic Idealize.ShloMosaic.WordArith

/-- A natural number as a 32-bit word. -/
abbrev word (n : ℕ) : BitVec 32 := BitVec.ofNat 32 n

theorem word_inj {a b : ℕ} (ha : a < 2 ^ 31) (hb : b < 2 ^ 31) (h : word a = word b) : a = b := by
  have h' := congrArg BitVec.toNat h
  simp only [word, BitVec.toNat_ofNat] at h'
  omega

theorem word_eq_iff {a b : Node} : word a.val = word b.val ↔ a = b :=
  ⟨fun h => Fin.ext (word_inj (by omega) (by omega) h), fun h => by rw [h]⟩

theorem word_toInt {n : ℕ} (h : n < 2 ^ 31) : (word n).toInt = n := toInt_ofNat_small n h

/-- The place of a pair, computed on words. -/
theorem word_lin (a b : Node) : IntOp.addi (IntOp.muli (BitVec.ofNat 32 a.val) 256#32) (BitVec.ofNat 32 b.val) = word (lin a b) := by
  unfold IntOp.addi IntOp.muli lin word
  rw [BitVec.ofNat_add, BitVec.ofNat_mul]

/-- Comparing two small words for order compares the numbers. -/
theorem cmpi_sgt_word {a b : ℕ} (ha : a < 2 ^ 31) (hb : b < 2 ^ 31) :
    IntOp.cmpi .sgt (word a) (word b) = BitVec.ofBool (decide (b < a)) := by
  unfold IntOp.cmpi
  simp only [BitVec.slt_eq_decide, word_toInt ha, word_toInt hb, Nat.cast_lt]

theorem cmpi_sle_word {a b : ℕ} (ha : a < 2 ^ 31) (hb : b < 2 ^ 31) :
    IntOp.cmpi .sle (word a) (word b) = BitVec.ofBool (decide (a ≤ b)) := by
  unfold IntOp.cmpi
  simp only [BitVec.sle_eq_decide, word_toInt ha, word_toInt hb, Nat.cast_le]

/-- A small word is not negative. -/
theorem cmpi_slt_zero {n : ℕ} (hn : n < 2 ^ 31) : IntOp.cmpi .slt (word n) 0#32 = 0#1 := by
  unfold IntOp.cmpi
  simp only [BitVec.slt_eq_decide, word_toInt hn]
  rw [decide_eq_false (by simp)]
  rfl

theorem cmpi_eq_word (a b : Node) : IntOp.cmpi .eq (word a.val) (word b.val) = BitVec.ofBool (decide (a = b)) := by
  unfold IntOp.cmpi
  congr 1
  rw [Bool.eq_iff_iff]
  simp only [beq_iff_eq, decide_eq_true_eq]
  exact word_eq_iff

/-- A choice by a decided proposition. -/
theorem select_ofBool {α : Type} (p : Prop) [Decidable p] (a b : α) :
    Scalar.select (BitVec.ofBool (decide p)) a b = if p then a else b := by
  unfold Scalar.select
  by_cases h : p <;> simp [h]

/-- The conjunction of two decided propositions. -/
theorem andi_decide (p q : Prop) [Decidable p] [Decidable q] :
    IntOp.andi (BitVec.ofBool (decide p)) (BitVec.ofBool (decide q)) = BitVec.ofBool (decide (p ∧ q)) := by
  rw [andi_ofBool, Bool.decide_and]

/-- The least of a family of words (read signed) is the word that occurs among them, lies below each of them and below the start. -/
theorem fold_minsi {ι : Type} [Fintype ι] {f : ι → BitVec 32} {c w : BitVec 32} (i : ι) (hi : f i = w)
    (hc : w.toInt ≤ c.toInt) (h : ∀ x, w.toInt ≤ (f x).toInt) : Finset.fold IntOp.minsi c f Finset.univ = w := by
  classical
  have key : ∀ s : Finset ι, w.toInt ≤ (Finset.fold IntOp.minsi c f s).toInt
      ∧ ∀ x ∈ s, (Finset.fold IntOp.minsi c f s).toInt ≤ (f x).toInt := by
    intro s
    induction s using Finset.induction_on with
    | empty => simpa using hc
    | insert a s ha ih =>
      rw [Finset.fold_insert ha]
      have hm : ∀ u v : BitVec 32, (IntOp.minsi u v).toInt = min u.toInt v.toInt := by
        intro u v
        unfold IntOp.minsi
        rw [BitVec.slt_eq_decide]
        by_cases huv : u.toInt < v.toInt
        · simp [huv, huv.le]
        · simp [huv, not_lt.mp huv]
      rw [hm]
      refine ⟨le_min (h a) ih.1, fun x hx => ?_⟩
      rcases Finset.mem_insert.1 hx with rfl | hx
      · exact min_le_left _ _
      · exact (min_le_right _ _).trans (ih.2 x hx)
  apply BitVec.eq_of_toInt_eq
  obtain ⟨h1, h2⟩ := key Finset.univ
  exact le_antisymm (by rw [← hi]; exact h2 i (Finset.mem_univ i)) h1

/-- The sum of a family of words of which all but one are zero. -/
theorem fold_addi {ι : Type} [Fintype ι] {f : ι → BitVec 32} (p : ι) (h : ∀ x, x ≠ p → f x = 0#32) :
    Finset.fold IntOp.addi 0#32 f Finset.univ = f p := by
  classical
  have key : ∀ s : Finset ι, Finset.fold IntOp.addi 0#32 f s = if p ∈ s then f p else 0#32 := by
    intro s
    induction s using Finset.induction_on with
    | empty => simp
    | insert a s ha ih =>
      rw [Finset.fold_insert ha, ih]
      unfold IntOp.addi
      by_cases hap : a = p
      · subst hap; simp [ha]
      · have : p ∈ insert a s ↔ p ∈ s := by simp [Ne.symm hap]
        simp only [this, h a hap, BitVec.zero_add]
  rw [key, if_pos (Finset.mem_univ p)]

/-- The sum of a family of words that are one or zero counts the ones. -/
theorem fold_addi_count {ι : Type} [Fintype ι] (p : ι → Prop) [DecidablePred p] :
    Finset.fold IntOp.addi 0#32 (fun x => (BitVec.ofBool (decide (p x))).setWidth 32) Finset.univ
      = word (Finset.univ.filter p).card := by
  classical
  have key : ∀ s : Finset ι, Finset.fold IntOp.addi 0#32 (fun x => (BitVec.ofBool (decide (p x))).setWidth 32) s
      = word (s.filter p).card := by
    intro s
    induction s using Finset.induction_on with
    | empty => simp
    | insert a s ha ih =>
      rw [Finset.fold_insert ha, ih, Finset.filter_insert]
      unfold IntOp.addi word
      by_cases hap : p a
      · rw [if_pos hap, Finset.card_insert_of_notMem (by simp [ha]), Nat.add_comm, BitVec.ofNat_add]
        simp [hap]
      · rw [if_neg hap]; simp [hap]
  exact key _

/-- The start of a maximum is the least extended real. -/
theorem ofBits_bot : Ideal.ofBits .f32 0xFF800000#32 = ⊥ := by
  simp [Ideal.ofBits, Ideal.ieee]

/-- The largest of a family of extended reals. -/
theorem fold_max {ι : Type} [Fintype ι] {f : ι → EReal} {y : EReal} (i : ι) (hi : f i = y) (h : ∀ x, f x ≤ y) :
    Finset.fold max (⊥ : EReal) f Finset.univ = y := by
  apply le_antisymm
  · rw [Finset.fold_max_le]; exact ⟨bot_le, fun x _ => h x⟩
  · rw [Finset.le_fold_max]; exact Or.inr ⟨i, Finset.mem_univ i, hi.ge⟩

/-- The rounded-down quotient by 256, as the kernel computes it. -/
theorem floor_div {n : ℕ} (hn : n < 65536) :
    Scalar.select (Scalar.andi (Scalar.cmpi .ne (Scalar.subi (Scalar.extui (Scalar.cmpi .sgt (word n) 0#32)) (Scalar.extui (Scalar.cmpi .slt (word n) 0#32)))
        (Scalar.subi (Scalar.extui (Scalar.cmpi .sgt 256#32 0#32)) (Scalar.extui (Scalar.cmpi .slt 256#32 0#32))))
        (Scalar.cmpi .ne (Scalar.remsi (word n) 256#32) 0#32))
      (Scalar.subi (Scalar.divsi (word n) 256#32) 1#32) (Scalar.divsi (word n) 256#32) = word (n / 256) := by
  have hd : Scalar.divsi (word n) 256#32 = word (n / 256) := Routing.divsi_word .scalar (a := n) (b := 256) (by omega) (by omega) (by omega)
  have hr : Scalar.remsi (word n) 256#32 = word (n % 256) := Routing.remsi_word .scalar (a := n) (b := 256) (by omega) (by omega) (by omega)
  rw [hd, hr]
  rcases Nat.eq_zero_or_pos n with h | h
  · subst h; decide
  · have h1 : Scalar.cmpi .sgt (word n) 0#32 = 1#1 := by
      have := cmpi_sgt_word (a := n) (b := 0) (by omega) (by omega)
      unfold Scalar.cmpi
      rw [show (0#32 : BitVec 32) = word 0 from rfl, this]; simp [h]
    have h2 : Scalar.cmpi .slt (word n) 0#32 = 0#1 := by
      exact cmpi_slt_zero (by omega)
    rw [h1, h2]
    have e : Scalar.cmpi .ne (Scalar.subi (Scalar.extui 1#1) (Scalar.extui 0#1))
        (Scalar.subi (Scalar.extui (Scalar.cmpi .sgt 256#32 0#32)) (Scalar.extui (Scalar.cmpi .slt 256#32 0#32))) = 0#1 := by decide
    rw [e]
    unfold Scalar.select Scalar.andi IntOp.andi
    rw [BitVec.zero_and]
    rfl

/-- The remainder by 256, as the kernel computes it. -/
theorem floor_mod {n : ℕ} (hn : n < 65536) :
    Scalar.select (Scalar.andi (Scalar.xori (Scalar.cmpi .slt (Scalar.remsi (word n) (Scalar.select (Scalar.cmpi .eq 256#32 0#32) 1#32 256#32)) 0#32)
          (Scalar.cmpi .slt (Scalar.select (Scalar.cmpi .eq 256#32 0#32) 1#32 256#32) 0#32))
        (Scalar.cmpi .ne (Scalar.remsi (word n) (Scalar.select (Scalar.cmpi .eq 256#32 0#32) 1#32 256#32)) 0#32))
      (Scalar.addi (Scalar.remsi (word n) (Scalar.select (Scalar.cmpi .eq 256#32 0#32) 1#32 256#32)) (Scalar.select (Scalar.cmpi .eq 256#32 0#32) 1#32 256#32))
      (Scalar.remsi (word n) (Scalar.select (Scalar.cmpi .eq 256#32 0#32) 1#32 256#32)) = word (n % 256) := by
  have hs : Scalar.select (Scalar.cmpi .eq 256#32 0#32) 1#32 256#32 = 256#32 := by decide
  have hr : Scalar.remsi (word n) 256#32 = word (n % 256) := Routing.remsi_word .scalar (a := n) (b := 256) (by omega) (by omega) (by omega)
  rw [hs, hr]
  have h2 : Scalar.cmpi .slt (word (n % 256)) 0#32 = 0#1 := by
    exact cmpi_slt_zero (by omega)
  have h3 : Scalar.cmpi .slt (256#32) 0#32 = 0#1 := by decide
  rw [h2, h3]
  unfold Scalar.select Scalar.andi Scalar.xori IntOp.andi IntOp.xori
  rw [show (0#1 ^^^ 0#1 : BitVec 1) = 0#1 from rfl, BitVec.zero_and]
  rfl

theorem lin_div (a b : Node) : lin a b / 256 = a.val := by unfold lin; omega

theorem lin_mod (a b : Node) : lin a b % 256 = b.val := by unfold lin; omega

end Cert.Greedy

end
-- ==== Proof.Trip.lean ====
/-
  The values one trip of the kernel's loop computes, read at an index: when the carried labels are those of a state of the greedy
  steps and the scratch matrix holds the scores with the merged pairs masked, the trip finds the best pair, relabels one group of
  it, and masks the pairs that came together.
-/
module

public import proofs.«01_k».proof.Proof.Gen.KernelIdeal.Skeleton
public import proofs.«01_k».proof.Proof.Words

@[expose] public section

set_option maxRecDepth 16384

noncomputable section

namespace Cert.Greedy

open Idealize.ShloMosaic Cert.KernelIdeal Cert.KernelIdeal.Gen

variable {S : Node → Node → EReal} {gid : Node → Node} {i j : Node}

/-- The trip finds the place of the best pair. -/
theorem pay4_eq (h : Best S gid i j) (hL : marker < S i j) {v : Vec Ideal S256x256 .f32}
    (hv : ∀ a b : Node, v (ix2 a b) = masked S marker gid a b) :
    k0_pay4 (F := Ideal) k0_pay7 v (ix3 0 0 0) = word (lin i j) := by
  have hm : Finset.fold max (⊥ : EReal) (fun x : Fin 256 × Fin 256 => masked S marker gid x.1 x.2) Finset.univ = S i j :=
    fold_max (i, j) h.masked_self fun x => h.masked_le hL x.1 x.2
  pointwise [k0_pay4, k0_pay7]
  simp only [hv, ofBits_bot, hm, word_lin]
  have hlt := lin_lt i j
  refine fold_minsi (i, j) (by simp [h.masked_self]) ?_ fun x => ?_
  · rw [word_toInt (by omega)]
    have : (2147483647#32 : BitVec 32).toInt = 2147483647 := by decide
    omega
  · rw [word_toInt (by omega)]
    split
    · next hx =>
      have h1 := h.lin_le hL x.1 x.2 hx
      have h2 := lin_lt x.1 x.2
      rw [word_toInt (by omega)]
      exact_mod_cast h1
    · have : (65536#32 : BitVec 32).toInt = 65536 := by decide
      omega

/-- The trip's row of the best pair. -/
theorem pay5_eq (h : Best S gid i j) (hL : marker < S i j) {v : Vec Ideal S256x256 .f32}
    (hv : ∀ a b : Node, v (ix2 a b) = masked S marker gid a b) (n : Fin 256) :
    k0_pay5 (F := Ideal) k0_pay7 v (ix2 0 n) = word i.val := by
  pointwise [k0_pay5]
  rw [pay4_eq h hL hv]
  exact (floor_div (lin_lt i j)).trans (by rw [lin_div])

/-- The label at a position, picked out of the carried row of labels by a sum over the positions. -/
theorem pick_eq {r : IVec S1x256 32} (hr : ∀ n : Node, r (ix2 0 n) = word (gid n).val) (p : Node) :
    Finset.fold IntOp.addi 0#32
        (fun x : Fin 1 × Fin 256 => Scalar.select (IntOp.cmpi .eq (BitVec.ofNat 32 x.2.val) (word p.val)) (r (ix2 0 x.2)) 0#32) Finset.univ
      = word (gid p).val := by
  rw [fold_addi ((0, p) : Fin 1 × Fin 256)]
  · have := cmpi_eq_word p p
    unfold word at this ⊢
    simp only [this, select_ofBool, if_true, hr]
  · rintro ⟨z, n⟩ hne
    have hn : n ≠ p := fun e => hne (by rw [e, Subsingleton.elim z 0])
    have := cmpi_eq_word n p
    unfold word at this ⊢
    simp only [this, select_ofBool, if_neg hn]

/-- The new row of labels is that of the merged state. -/
theorem pay8_eq {r : IVec S1x256 32} (hr : ∀ n : Node, r (ix2 0 n) = word (gid n).val) {iv : IVec S1x256 32}
    (hi : ∀ n : Node, iv (ix2 0 n) = word i.val) (n : Node) :
    k0_pay8 r (word j.val) iv (ix2 0 n) = word (merge gid i j n).val := by
  pointwise [k0_pay8]
  simp only [hi]
  rw [pick_eq hr, pick_eq hr, hr, cmpi_eq_word, select_ofBool]
  unfold merge
  split <;> rfl

/-- The new column of labels is that of the merged state. -/
theorem pay9_eq {r : IVec S1x256 32} (hr : ∀ n : Node, r (ix2 0 n) = word (gid n).val) {c : IVec S256x1 32}
    (hc : ∀ n : Node, c (ix2 n 0) = word (gid n).val) {iv : IVec S1x256 32}
    (hi : ∀ n : Node, iv (ix2 0 n) = word i.val) (n : Node) :
    k0_pay9 r c (word j.val) iv (ix2 n 0) = word (merge gid i j n).val := by
  pointwise [k0_pay9]
  simp only [hi]
  rw [pick_eq hr, pick_eq hr, hc, cmpi_eq_word, select_ofBool]
  unfold merge
  split <;> rfl

/-- The new scratch matrix masks the pairs of one group of the merged state. -/
theorem pay10_eq {r : IVec S1x256 32} (hr : ∀ n : Node, r (ix2 0 n) = word (gid n).val) {c : IVec S256x1 32}
    (hc : ∀ n : Node, c (ix2 n 0) = word (gid n).val) {iv : IVec S1x256 32}
    (hi : ∀ n : Node, iv (ix2 0 n) = word i.val) {v : Vec Ideal S256x256 .f32}
    (hv : ∀ a b : Node, v (ix2 a b) = masked S marker gid a b) (a b : Node) :
    k0_pay10 (F := Ideal) r c v (word j.val) iv (ix2 a b) = masked S marker (merge gid i j) a b := by
  pointwise [k0_pay10]
  rw [pick_eq hr, pay8_eq hr hi, pay9_eq hr hc hi, cmpi_eq_word, cmpi_eq_word, andi_decide, select_ofBool, masked_merge, hv]
  rfl

/-- The scratch matrix the loop starts from: the scores above the diagonal, the rest masked. -/
theorem pay6_eq {v : Vec Ideal S1x256x384 .f32} (a b : Node) :
    k0_pay6 (F := Ideal) v (ix2 a b) = masked (score fun n d => v (ix3 0 n d)) marker id a b := by
  pointwise [k0_pay6]
  have := cmpi_sgt_word (a := b.val) (b := a.val) (by omega) (by omega)
  unfold word at this
  rw [this, select_ofBool]
  unfold masked
  by_cases h : a.val < b.val
  · rw [if_pos h, if_pos ⟨h, Fin.ne_of_lt h⟩]; rfl
  · rw [if_neg h, if_neg fun e => h e.1]; rfl

end Cert.Greedy

end
-- ==== Proof.Final.lean ====
/-
  The closing arithmetic that both programs share: numbers out of bits and words, sums over indicators, and the mean of a group's rows.
-/
module

public import proofs.«01_k».proof.Proof.Score
public import proofs.«01_k».proof.Proof.Words

@[expose] public section

noncomputable section

namespace Cert.Greedy

open Idealize.ShloMosaic

/-- One where the proposition holds, zero elsewhere. -/
def ind (p : Prop) [Decidable p] : EReal := if p then 1 else 0

theorem ind_true {p : Prop} [Decidable p] (h : p) : ind p = 1 := if_pos h

theorem ind_false {p : Prop} [Decidable p] (h : ¬ p) : ind p = 0 := if_neg h

theorem ind_congr {p q : Prop} [Decidable p] [Decidable q] (h : p ↔ q) : ind p = ind q := by
  by_cases hq : q
  · rw [ind_true (h.2 hq), ind_true hq]
  · rw [ind_false (fun hp => hq (h.1 hp)), ind_false hq]

theorem ind_pos {p : Prop} [Decidable p] : 0 < ind p ↔ p := by
  by_cases h : p
  · rw [ind_true h]; exact iff_of_true one_pos h
  · rw [ind_false h]; exact iff_of_false (lt_irrefl _) h

theorem ind_mul (p q : Prop) [Decidable p] [Decidable q] : ind p * ind q = ind (p ∧ q) := by
  by_cases hp : p <;> by_cases hq : q <;> simp [ind, hp, hq]

theorem ind_coe (p : Prop) [Decidable p] : ind p = (((if p then 1 else 0 : ℝ)) : EReal) := by
  unfold ind; split <;> simp

/-- A small word as a number. -/
theorem sitofp_word {n : ℕ} (h : n < 2 ^ 31) : FloatOps.sitofp (F := Ideal) .f32 (word n) = (((n : ℝ)) : EReal) := by
  show (((((word n).toInt : ℤ) : ℝ)) : EReal) = _
  rw [word_toInt h, Int.cast_natCast]

theorem setWidth_word (p : Prop) [Decidable p] : BitVec.setWidth 32 (BitVec.ofBool (decide p)) = word (if p then 1 else 0) := by
  by_cases h : p <;> simp [h, word]

/-- A bit as a number. -/
theorem sitofp_bit (p : Prop) [Decidable p] :
    FloatOps.sitofp (F := Ideal) .f32 (BitVec.setWidth 32 (BitVec.ofBool (decide p))) = ind p := by
  rw [setWidth_word, sitofp_word (by split <;> norm_num), ind_coe]
  split <;> simp

/-- The sum of an indicator is the number of points where it is one. -/
theorem sum_ind {ι : Type} [Fintype ι] (p : ι → Prop) [DecidablePred p] :
    ∑ x, ind (p x) = (((Finset.univ.filter p).card : ℝ) : EReal) := by
  simp only [ind_coe]
  rw [← coe_sum, Finset.sum_boole]

/-- A sum against an indicator of one point. -/
theorem sum_pick {ι : Type} [Fintype ι] {p : ι → Prop} [DecidablePred p] {a : ι} (h : ∀ x, p x ↔ x = a) (f : ι → EReal) :
    ∑ x, ind (p x) * f x = f a := by
  rw [Finset.sum_eq_single a (fun x _ hx => by rw [ind_false (fun hp => hx ((h x).1 hp)), zero_mul])
    (fun ha => absurd (Finset.mem_univ a) ha), ind_true ((h a).2 rfl), one_mul]

/-- The rows of a group, added up and divided by their number. -/
def mean (gid : Node → Node) (L : Node) (v : Node → EReal) : EReal :=
  Ideal.div (∑ n, ind (gid n = L) * v n) ((count gid L : ℝ) : EReal)

/-- Division by a positive real is multiplication by its inverse. -/
theorem div_pos_real (y : EReal) {c : ℝ} (hc : 0 < c) : Ideal.div y (c : EReal) = y * ((c⁻¹ : ℝ) : EReal) := by
  unfold Ideal.div
  rw [if_neg (by exact_mod_cast hc.ne'), EReal.coe_inv]

/-- A sum times a real that is not negative. -/
theorem sum_mul_real {ι : Type} (s : Finset ι) (f : ι → EReal) {c : ℝ} (hc : 0 ≤ c) :
    (∑ x ∈ s, f x) * (c : EReal) = ∑ x ∈ s, f x * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- Dividing each weight by the number of rows first gives the same mean. -/
theorem mean_eq {gid : Node → Node} {L : Node} (hL : L ∈ labels gid) (v : Node → EReal) :
    ∑ n, Ideal.div (ind (gid n = L)) ((count gid L : ℝ) : EReal) * v n = mean gid L v := by
  have hc : (0 : ℝ) < (count gid L : ℝ) := by exact_mod_cast count_pos.2 hL
  unfold mean
  rw [div_pos_real _ hc, sum_mul_real _ _ (inv_nonneg.2 hc.le)]
  refine Finset.sum_congr rfl fun n _ => ?_
  rw [div_pos_real _ hc, mul_right_comm]

/-- The label of rank `r`: where at least 192 labels are in use there is one for every `r < 192`. -/
theorem exists_nth (S : Node → Node → EReal) (r : Fin 192) : ∃ g, IsNth (gids S 64) r.val g :=
  exists_isNth (lt_of_lt_of_le r.isLt (card_gids S 64))

/-- That label. -/
def nth (S : Node → Node → EReal) (r : Fin 192) : Node := (exists_nth S r).choose

theorem nth_spec (S : Node → Node → EReal) (r : Fin 192) : IsNth (gids S 64) r.val (nth S r) := (exists_nth S r).choose_spec

theorem isNth_iff (S : Node → Node → EReal) (r : Fin 192) (g : Node) : IsNth (gids S 64) r.val g ↔ g = nth S r :=
  ⟨fun h => h.unique (nth_spec S r), fun h => h ▸ nth_spec S r⟩

end Cert.Greedy

end
-- ==== Proof.KernelEnd.lean ====
/-
  The values the kernel computes after its loop, read at an index: with the carried labels those of 64 greedy steps, the matrix
  that selects the labels in use in increasing order, the sizes of the groups and the means of their rows.
-/
module

public import proofs.«01_k».proof.Proof.Gen.KernelIdeal.Skeleton
public import proofs.«01_k».proof.Proof.Final

@[expose] public section

set_option maxRecDepth 16384

noncomputable section

namespace Cert.Greedy

open Idealize.ShloMosaic Cert.KernelIdeal Cert.KernelIdeal.Gen

/-- The matrix that marks, in the column of a label, the positions that carry it. -/
theorem pay11_eq {gid : Node → Node} {c : IVec S256x1 32} (hc : ∀ n : Node, c (ix2 n 0) = word (gid n).val) (n g : Node) :
    k0_pay11 (F := Ideal) c (ix2 n g) = ind (gid n = g) := by
  pointwise [k0_pay11]
  rw [hc]
  have := cmpi_eq_word (gid n) g
  unfold word at this ⊢
  rw [this, sitofp_bit]

/-- The number of positions that carry a label. -/
theorem pay12_eq {gid : Node → Node} {r : IVec S1x256 32} (hr : ∀ n : Node, r (ix2 0 n) = word (gid n).val) (g : Node) :
    k0_pay12 (F := Ideal) r (ix2 g 0) = (((count gid g : ℝ)) : EReal) := by
  pointwise [k0_pay12]
  simp only [hr]
  have key : ∀ x : Node, FloatOps.sitofp (F := Ideal) FTy.f32 (BitVec.setWidth 32 (IntOp.cmpi .eq (BitVec.ofNat 32 g.val) (word (gid x).val)))
      = ind (gid x = g) := by
    intro x
    have := cmpi_eq_word g (gid x)
    unfold word at this ⊢
    rw [this, sitofp_bit, ind_congr eq_comm]
  simp only [key]
  rw [sum_ind]
  rfl

/-- The labels in use. -/
theorem pay13_eq {gid : Node → Node} {r : IVec S1x256 32} (hr : ∀ n : Node, r (ix2 0 n) = word (gid n).val) (g : Node) :
    k0_pay13 (F := Ideal) r (ix2 g 0) = ind (g ∈ labels gid) := by
  pointwise [k0_pay13]
  rw [sitofp_bit]
  refine ind_congr ?_
  rw [pay12_eq hr, ← count_pos]
  norm_cast

/-- The lower triangle. -/
theorem pay14_eq (g h : Node) : k0_pay14 (F := Ideal) (ix2 g h) = ind (h ≤ g) := by
  pointwise [k0_pay14]
  have := cmpi_sle_word (a := h.val) (b := g.val) (by omega) (by omega)
  unfold word at this
  rw [this, sitofp_bit]
  exact ind_congr Fin.le_def.symm

/-- Of a label in use, the labels in use up to it are one more than its rank. -/
theorem card_le {gid : Node → Node} {g : Node} (hg : g ∈ labels gid) :
    (Finset.univ.filter fun h => h ≤ g ∧ h ∈ labels gid).card = rank gid g + 1 := by
  have hn : g ∉ (labels gid).filter fun h => h < g := fun h => lt_irrefl _ (Finset.mem_filter.1 h).2
  have e : (Finset.univ.filter fun h => h ≤ g ∧ h ∈ labels gid) = insert g ((labels gid).filter fun h => h < g) := by
    ext h
    rw [Finset.mem_filter, Finset.mem_insert, Finset.mem_filter]
    constructor
    · rintro ⟨-, h1, h2⟩
      exact h1.eq_or_lt.imp id fun h3 => ⟨h2, h3⟩
    · rintro (h1 | ⟨h1, h2⟩)
      · exact ⟨Finset.mem_univ _, h1.le, h1 ▸ hg⟩
      · exact ⟨Finset.mem_univ _, h2.le, h1⟩
  rw [e, Finset.card_insert_of_notMem hn]
  rfl

/-- A natural number's successor, less one. -/
theorem succ_sub (n : ℕ) : (((n + 1 : ℕ) : ℝ) : EReal) - 1 = ((n : ℝ) : EReal) := by
  rw [← EReal.coe_one, ← EReal.coe_sub, Nat.cast_add, Nat.cast_one, add_sub_cancel_right]

theorem cast_inj_ereal (a b : ℕ) : ((a : ℝ) : EReal) = ((b : ℝ) : EReal) ↔ a = b := by
  rw [EReal.coe_eq_coe_iff, Nat.cast_inj]

/-- What the closing computation is given: the labels' presence, the lower triangle, a column of zeros and the positions along a row. -/
structure Ends (gid : Node → Node) (v20 : IVec S1x256 32) (al z : FVec Ideal S256x1 .f32) (tl : FVec Ideal S256x256 .f32) : Prop where
  lane : ∀ n : Node, v20 (ix2 0 n) = word n.val
  al : ∀ g : Node, al (ix2 g 0) = ind (g ∈ labels gid)
  z : ∀ g : Node, z (ix2 g 0) = 0
  tl : ∀ g h : Node, tl (ix2 g h) = ind (h ≤ g)

/-- The selecting matrix has a one where the row's label is in use and its rank is the column. -/
theorem pay1_eq {gid : Node → Node} {v20 : IVec S1x256 32} {al z : FVec Ideal S256x1 .f32} {tl : FVec Ideal S256x256 .f32}
    (E : Ends gid v20 al z tl) (g : Node) (r : Node) [Decidable (IsNth gid r.val g)] :
    k0_pay1 (F := Ideal) v20 al tl z (ix2 g r) = ind (IsNth gid r.val g) := by
  pointwise [k0_pay1]
  simp only [E.al, E.z, E.tl, E.lane, ind_mul, sum_ind, ind_pos, zero_add]
  rw [sitofp_word (by omega), andi_decide, select_ofBool]
  refine if_congr ?_ rfl rfl
  unfold IsNth
  rw [and_comm]
  refine and_congr_right fun hg => ?_
  rw [card_le hg, succ_sub, cast_inj_ereal]

/-- The size stored in place `r` is the number of positions that carry the label of rank `r`. -/
theorem pay3_eq {gid : Node → Node} {v20 : IVec S1x256 32} {al z cnt : FVec Ideal S256x1 .f32} {tl : FVec Ideal S256x256 .f32}
    (E : Ends gid v20 al z tl) (hcnt : ∀ g : Node, cnt (ix2 g 0) = (((count gid g : ℝ)) : EReal)) {r L : Node} (hL : IsNth gid r.val L) :
    k0_pay3 (F := Ideal) v20 cnt al tl z (ix3 0 0 r) = (((count gid L : ℝ)) : EReal) := by
  classical
  pointwise [k0_pay3]
  simp only [pay1_eq E]
  rw [sum_pick (fun g => ⟨fun h => h.unique hL, fun h => h ▸ hL⟩), hcnt]

/-- The row stored in place `r` is the mean of the rows that carry the label of rank `r`. -/
theorem pay2_eq {gid : Node → Node} {v20 : IVec S1x256 32} {al z cnt : FVec Ideal S256x1 .f32} {tl oh : FVec Ideal S256x256 .f32}
    {v : Vec Ideal S1x256x384 .f32}
    (E : Ends gid v20 al z tl) (hcnt : ∀ g : Node, cnt (ix2 g 0) = (((count gid g : ℝ)) : EReal))
    (hoh : ∀ n g : Node, oh (ix2 n g) = ind (gid n = g)) {r L : Node} (hL : IsNth gid r.val L) (d : Fin 384) :
    k0_pay2 (F := Ideal) v20 oh cnt al tl z v (ix3 0 r d) = mean gid L (fun n => v (ix3 0 n d)) := by
  classical
  pointwise [k0_pay2]
  simp only [pay1_eq E]
  rw [sum_pick (fun g => ⟨fun h => h.unique hL, fun h => h ▸ hL⟩), hcnt]
  have h1 : max ((((count gid L : ℝ)) : EReal)) 1 = (((count gid L : ℝ)) : EReal) := by
    refine max_eq_left ?_
    have := count_pos.2 hL.1
    exact_mod_cast this
  rw [h1]
  unfold mean
  congr 1
  refine Finset.sum_congr rfl fun n _ => ?_
  congr 1
  simp only [hoh]
  rw [Finset.sum_congr rfl fun g _ => mul_comm _ _, sum_pick (fun g => ⟨fun h => h.unique hL, fun h => h ▸ hL⟩)]

end Cert.Greedy

end
-- ==== Proof.KernelLoop.lean ====
/-
  The kernel's loop: before every trip the carried row and column of labels are those of a state of the greedy steps, and the
  scratch matrix holds the scores with the pairs of one group masked.
-/
module

public import proofs.«01_k».proof.Proof.Gen.KernelIdeal.Frame
public import proofs.«01_k».proof.Proof.Trip
public import proofs.«01_k».proof.Proof.KernelEnd

@[expose] public section

set_option maxRecDepth 16384

noncomputable section

namespace Cert.Greedy

open Idealize.ShloMosaic Idealize.ShloMosaic.TcCoe Idealize.ShloMosaic.Tactic Cert.KernelIdeal Cert.KernelIdeal.Gen

theorem zero2 : (![0, 0] : Fin 2 → Nat) = fun _ => 0 := funext fun a => by fin_cases a <;> rfl
theorem zero3 : (![0, 0, 0] : Fin 3 → Nat) = fun _ => 0 := funext fun a => by fin_cases a <;> rfl

/-- The column of the best pair out of its place, as the trip computes it. -/
theorem column_eq {n : ℕ} (hn : n < 65536) :
    Scalar.select (Scalar.andi (Scalar.xori (Scalar.cmpi .slt (Scalar.remsi (word n) 256#32) 0#32) 0#1)
        (Scalar.cmpi .ne (Scalar.remsi (word n) 256#32) 0#32))
      (Scalar.addi (Scalar.remsi (word n) 256#32) 256#32) (Scalar.remsi (word n) 256#32) = word (n % 256) := floor_mod hn

/-- The carried labels `r`, `c` and the scratch matrix `w` are those of the state `gid`. -/
structure Holds (S : Node → Node → EReal) (gid : Node → Node) (acc : IVec S1x256 32 × IVec S256x1 32) (w : Vec Ideal S256x256 .f32) : Prop where
  row : ∀ n : Node, acc.1 (ix2 0 n) = word (gid n).val
  col : ∀ n : Node, acc.2 (ix2 n 0) = word (gid n).val
  mat : ∀ a b : Node, w (ix2 a b) = masked S marker gid a b

section Loop

variable (𝒱 : Variants) (c : Dev nD) (bd : Option 𝒱.V) (i : grid0.Coords) (arg1 : Memref sig .tc .vmem S1x256x384 .f32) (harg1 : arg1.IsWhole)
  (arg2 : Memref sig .tc .vmem S1x256x384 .f32) (harg2 : arg2.IsWhole) (arg3 : Memref sig .tc .vmem S1x256x384 .f32) (harg3 : arg3.IsWhole)
  (arg4 : Memref sig .tc .vmem S1x1x256 .f32) (harg4 : arg4.IsWhole) (arg5 : Memref sig .tc .vmem S256x256 .f32) (harg5 : arg5.IsWhole)

variable {S : Node → Node → EReal} {gid : Node → Node} {p q : Node}

/-- What a trip yields carries the merged state's labels. -/
theorem trip_labels (k : Fin k0_t1_loop.trips) {acc : IVec S1x256 32 × IVec S256x1 32} {f : BufTy.Contents (Elt Ideal) arg5.view.ty}
    (h : Holds S gid acc (arg5.view.read (Elt Ideal) f)) (hb : Best S gid p q) (hL : marker < S p q) (n : Node) :
    (tripR_k0_t1 (F := Ideal) 𝒱 c bd i arg1 harg1 arg2 harg2 arg3 harg3 arg4 harg4 arg5 harg5 k acc f).1 (ix2 0 n) = word (merge gid p q n).val
    ∧ (tripR_k0_t1 (F := Ideal) 𝒱 c bd i arg1 harg1 arg2 harg2 arg3 harg3 arg4 harg4 arg5 harg5 k acc f).2 (ix2 n 0) = word (merge gid p q n).val := by
  unfold tripR_k0_t1 trip_k0_t1
  dsimp only
  sl_unfold_words
  rw [View.readAt_eq_ld, View.ld_unit_zero (S := S256x256) zero2]
  have e : extractAt ![0, 0, 0] (k0_pay4 (F := Ideal) k0_pay7 (arg5.view.read (Elt Ideal) f)) inpos_S1x1x1_p0_0_0 = word (lin p q) := by
    rw [← pay4_eq hb hL h.mat]; rfl
  rw [e, column_eq (lin_lt p q), lin_mod]
  exact ⟨pay8_eq h.row (pay5_eq hb hL h.mat) n, pay9_eq h.row h.col (pay5_eq hb hL h.mat) n⟩

/-- What a trip stores in the scratch matrix is the merged state's masked matrix. -/
theorem trip_matrix (k : Fin k0_t1_loop.trips) {acc : IVec S1x256 32 × IVec S256x1 32} {f : BufTy.Contents (Elt Ideal) arg5.view.ty}
    (h : Holds S gid acc (arg5.view.read (Elt Ideal) f)) (hb : Best S gid p q) (hL : marker < S p q) :
    ∃ w : Vec Ideal S256x256 .f32, tripL_k0_t1 (F := Ideal) 𝒱 c bd i arg1 harg1 arg2 harg2 arg3 harg3 arg4 harg4 arg5 harg5 k acc f
        = [⟨Rect.unit ![0, 0] S256x256.size inb_S256x256_S256x256_0_0, w⟩]
      ∧ ∀ a b : Node, w (ix2 a b) = masked S marker (merge gid p q) a b := by
  unfold tripL_k0_t1 trip_k0_t1
  dsimp only
  sl_unfold_words
  rw [View.readAt_eq_ld, View.ld_unit_zero (S := S256x256) zero2]
  have e : extractAt ![0, 0, 0] (k0_pay4 (F := Ideal) k0_pay7 (arg5.view.read (Elt Ideal) f)) inpos_S1x1x1_p0_0_0 = word (lin p q) := by
    rw [← pay4_eq hb hL h.mat]; rfl
  rw [e, column_eq (lin_lt p q), lin_mod]
  exact ⟨_, rfl, fun a b => pay10_eq h.row h.col (pay5_eq hb hL h.mat) h.mat a b⟩

/-- A store of the whole matrix is what is read afterwards. -/
theorem read_whole (f : BufTy.Contents (Elt Ideal) arg5.view.ty) (w : Vec Ideal S256x256 .f32) :
    arg5.view.read (Elt Ideal) (arg5.view.writes (Elt Ideal) f [⟨Rect.unit ![0, 0] S256x256.size inb_S256x256_S256x256_0_0, w⟩]) = w := by
  rw [View.read_writes_eq_canon _ _ _ (View.cover_of_tiledL _ S256x256.size (by sl_kernel_rfl)), View.canon_unit_zero (S := S256x256) zero2]

/-- The loop's state before trip `t` holds the state of the greedy steps after `t` of them. -/
theorem loop_holds (hS : Above S marker) {G : BufTy.Contents (Elt Ideal) arg5.view.ty} {init : IVec S1x256 32 × IVec S256x1 32}
    (h0 : Holds S id init (arg5.view.read (Elt Ideal) G)) (t : ℕ) (ht : t ≤ 64) :
    Holds S (gids S t) (st_k0_t1 (F := Ideal) 𝒱 c bd i arg1 harg1 arg2 harg2 arg3 harg3 arg4 harg4 arg5 harg5 G init t).1
      (arg5.view.read (Elt Ideal) (arg5.view.writes (Elt Ideal) G
        (st_k0_t1 (F := Ideal) 𝒱 c bd i arg1 harg1 arg2 harg2 arg3 harg3 arg4 harg4 arg5 harg5 G init t).2)) := by
  induction t with
  | zero => exact h0
  | succ t ih =>
    have h := ih (by omega)
    obtain ⟨p, q, hb, hL⟩ := hS.best (t := t) (by omega)
    have hk : t < k0_t1_loop.trips := lt_of_lt_of_le (by omega : t < 64) (by decide)
    have e := st_k0_t1_succ (F := Ideal) 𝒱 c bd i arg1 harg1 arg2 harg2 arg3 harg3 arg4 harg4 arg5 harg5 G init ⟨t, hk⟩
    dsimp only at e
    rw [e]
    obtain ⟨w, hw, hm⟩ := trip_matrix 𝒱 c bd i arg1 harg1 arg2 harg2 arg3 harg3 arg4 harg4 arg5 harg5 ⟨t, hk⟩ h hb hL
    have hl := trip_labels 𝒱 c bd i arg1 harg1 arg2 harg2 arg3 harg3 arg4 harg4 arg5 harg5 ⟨t, hk⟩ h hb hL
    have hg : gids S (t + 1) = merge (gids S t) p q := next_eq hb
    refine ⟨fun n => hg ▸ (hl n).1, fun n => hg ▸ (hl n).2, fun a b => ?_⟩
    rw [View.writes_append, hw, read_whole, hm, hg]

end Loop

end Cert.Greedy

end
-- ==== Proof.KernelBody.lean ====
/-
  What the kernel's body leaves in its two outputs at one grid point: the means of the groups' rows and the sizes of the groups,
  in the order of the labels in use after 64 greedy steps on the point's keys.
-/
module

public import proofs.«01_k».proof.Proof.KernelLoop

@[expose] public section

set_option maxRecDepth 16384

noncomputable section

namespace Cert.Greedy

open Idealize.ShloMosaic Idealize.ShloMosaic.TcCoe Idealize.ShloMosaic.Tactic Cert.KernelIdeal Cert.KernelIdeal.Gen

variable (c : Dev nD) (i : grid0.Coords) (arg1 : Memref sig .tc .vmem S1x256x384 .f32) (harg1 : arg1.IsWhole)
  (arg2 : Memref sig .tc .vmem S1x256x384 .f32) (harg2 : arg2.IsWhole) (arg3 : Memref sig .tc .vmem S1x256x384 .f32) (harg3 : arg3.IsWhole)
  (arg4 : Memref sig .tc .vmem S1x1x256 .f32) (harg4 : arg4.IsWhole) (arg5 : Memref sig .tc .vmem S256x256 .f32) (harg5 : arg5.IsWhole)
  (x0 x1 : Vec Ideal S1x256x384 .f32)

/-- The scores of a block of keys. -/
def blockScore (x : Vec Ideal S1x256x384 .f32) : Node → Node → EReal := score fun n d => x (ix3 0 n d)

/-- The positions along a row. -/
def lane : IVec S1x256 32 := iota .tc S1x256 32 [1] iota_S1x256_d1_w32

/-- The positions down a column. -/
def down : IVec S256x1 32 := iota .tc S256x1 32 [0] iota_S256x1_d0_w32

theorem lane_eq (n : Node) : lane (ix2 0 n) = word n.val := by
  pointwise [lane]

theorem down_eq (n : Node) : down (ix2 n 0) = word n.val := by
  pointwise [down]

/-- The scratch matrix before the loop. -/
abbrev entry : BufTy.Contents (Elt Ideal) arg5.view.ty :=
  arg5.view.writes (Elt Ideal) arg5.view.junk [⟨Rect.unit ![0, 0] S256x256.size inb_S256x256_S256x256_0_0, k0_pay6 (F := Ideal) x0⟩]

theorem entry_holds : Holds (blockScore x0) id (lane, down) (arg5.view.read (Elt Ideal) (entry arg5 x0)) where
  row n := lane_eq n
  col n := down_eq n
  mat a b := by rw [read_whole]; exact pay6_eq a b

/-- The labels the loop ends with. -/
abbrev final : IVec S1x256 32 × IVec S256x1 32 :=
  (st_k0_t1 (F := Ideal) Variants.none c none i arg1 harg1 arg2 harg2 arg3 harg3 arg4 harg4 arg5 harg5 (entry arg5 x0) (lane, down) 64).1

theorem final_row (n : Node) : (final c i arg1 harg1 arg2 harg2 arg3 harg3 arg4 harg4 arg5 harg5 x0).1 (ix2 0 n) = word (gids (blockScore x0) 64 n).val :=
  (loop_holds Variants.none c none i arg1 harg1 arg2 harg2 arg3 harg3 arg4 harg4 arg5 harg5 (above_score _) (entry_holds arg5 x0) 64 le_rfl).row n

theorem final_col (n : Node) : (final c i arg1 harg1 arg2 harg2 arg3 harg3 arg4 harg4 arg5 harg5 x0).2 (ix2 n 0) = word (gids (blockScore x0) 64 n).val :=
  (loop_holds Variants.none c none i arg1 harg1 arg2 harg2 arg3 harg3 arg4 harg4 arg5 harg5 (above_score _) (entry_holds arg5 x0) 64 le_rfl).col n

theorem trips_eq : Scf.trips k0_t1_loop.lb k0_t1_loop.ub k0_t1_loop.st = 64 := by decide

/-- What is given to the closing computation. -/
theorem final_ends {r : IVec S1x256 32} {gid : Node → Node} (hr : ∀ n : Node, r (ix2 0 n) = word (gid n).val) :
    Ends gid lane (k0_pay13 (F := Ideal) r) (constant (F := Ideal) S256x1 .f32 0x00000000#32) (k0_pay14 (F := Ideal)) where
  lane n := lane_eq n
  al g := pay13_eq hr g
  z g := by
    show Ideal.ofBits .f32 0x00000000#32 = 0
    simp [Ideal.ofBits, Ideal.ieee]
  tl g h := pay14_eq g h

/-- The body's first output: in place `r`, the mean of the rows that carry the label of rank `r`. -/
theorem out2_eq {r L : Node} (hL : IsNth (gids (blockScore x0) 64) r.val L) (d : Fin 384) :
    out0_A_2 (F := Ideal) c i arg1 harg1 arg2 harg2 arg3 harg3 arg4 harg4 arg5 harg5 x0 x1 (ix3 0 r d)
      = mean (gids (blockScore x0) 64) L (fun n => x1 (ix3 0 n d)) := by
  unfold out0_A_2
  rw [View.read_writes_eq_canon _ _ _ (cover0_A_2 c i arg1 harg1 arg2 harg2 arg3 harg3 arg4 harg4 arg5 harg5 x0 x1)]
  unfold kernelRun0_A
  dsimp only
  sl_unfold_words
  rw [View.canon_unit_zero (S := S1x256x384) zero3]
  simp only [View.readAt_eq_ld, harg1.read_unread, harg2.read_unread, View.ld_unit_zero (S := S1x256x384) zero3, trips_eq]
  have hr := final_row c i arg1 harg1 arg2 harg2 arg3 harg3 arg4 harg4 arg5 harg5 x0
  have hc := final_col c i arg1 harg1 arg2 harg2 arg3 harg3 arg4 harg4 arg5 harg5 x0
  exact pay2_eq (final_ends hr) (pay12_eq hr) (pay11_eq hc) hL d

/-- The body's second output: in place `r`, the number of positions that carry the label of rank `r`. -/
theorem out3_eq {r L : Node} (hL : IsNth (gids (blockScore x0) 64) r.val L) :
    out0_A_3 (F := Ideal) c i arg1 harg1 arg2 harg2 arg3 harg3 arg4 harg4 arg5 harg5 x0 x1 (ix3 0 0 r)
      = (((count (gids (blockScore x0) 64) L : ℝ)) : EReal) := by
  unfold out0_A_3
  rw [View.read_writes_eq_canon _ _ _ (cover0_A_3 c i arg1 harg1 arg2 harg2 arg3 harg3 arg4 harg4 arg5 harg5 x0 x1)]
  unfold kernelRun0_A
  dsimp only
  sl_unfold_words
  rw [View.canon_unit_zero (S := S1x1x256) zero3]
  simp only [View.readAt_eq_ld, harg1.read_unread, View.ld_unit_zero (S := S1x256x384) zero3, trips_eq]
  have hr := final_row c i arg1 harg1 arg2 harg2 arg3 harg3 arg4 harg4 arg5 harg5 x0
  exact pay3_eq (final_ends hr) (pay12_eq hr) hL

end Cert.Greedy

end
-- ==== Proof.KernelRun.lean ====
/-
  The kernel's run: what its two result arrays end with, read at an index.
-/
module

public import proofs.«01_k».proof.Proof.KernelBody

@[expose] public section

set_option maxRecDepth 16384

noncomputable section

namespace Cert.Greedy

open Idealize.ShloMosaic Idealize.ShloMosaic.TcCoe Idealize.ShloMosaic.Tactic Cert.KernelIdeal Cert.KernelIdeal.Gen
open Idealize.SL Idealize.SL.Sem
open Idealize.ShloMosaic.Pipeline (Dat)

variable (m : (ℓ : Loc nD τ sig) → Buf (Elt Ideal) ℓ) (ρ : Dev nD → PrngReg)

/-- The grid point of a batch entry. -/
def point (b : Fin 8) : Fin cfg0.N := ⟨b.val, b.isLt.trans_eq N_0.symm⟩

/-- Point `t` works on block `t` of each window's array. -/
theorem index0 : ∀ t : Fin cfg0.N, win0_0.index t 0 = t.val ∧ win0_0.index t 1 = 0 ∧ win0_0.index t 2 = 0 := by decide
theorem index1 : ∀ t : Fin cfg0.N, win0_1.index t 0 = t.val ∧ win0_1.index t 1 = 0 ∧ win0_1.index t 2 = 0 := by decide
theorem index2 : ∀ t : Fin cfg0.N, win0_2.index t 0 = t.val ∧ win0_2.index t 1 = 0 ∧ win0_2.index t 2 = 0 := by decide
theorem index3 : ∀ t : Fin cfg0.N, win0_3.index t 0 = t.val ∧ win0_3.index t 1 = 0 ∧ win0_3.index t 2 = 0 := by decide

/-- The keys a point reads. -/
theorem block0 (c : Dev nD) (b : Fin 8) (n : Node) (d : Fin 384) :
    (iblk m c 0 (point b) : Vec Ideal S1x256x384 .f32) (ix3 0 n d) = (m ((c : Thread nD τ).loc main_arg0) : S8x256x384.Idx → EReal) (ix3 b n d) := by
  unfold iblk
  rw [View.read_apply]
  show V m c main_arg0 _ = m (c.tc.loc main_arg0) _
  unfold V
  congr 1
  obtain ⟨h0, h1, h2⟩ := index0 (point b)
  funext a
  apply Fin.ext
  match a with
  | ⟨0, _⟩ => show win0_0.index (point b) 0 * 1 + 1 * 0 = b.val; rw [h0]; show b.val * 1 + 1 * 0 = b.val; omega
  | ⟨1, _⟩ => show win0_0.index (point b) 1 * 256 + 1 * n.val = n.val; rw [h1]; omega
  | ⟨2, _⟩ => show win0_0.index (point b) 2 * 384 + 1 * d.val = d.val; rw [h2]; omega

/-- The values a point reads. -/
theorem block1 (c : Dev nD) (b : Fin 8) (n : Node) (d : Fin 384) :
    (iblk m c 1 (point b) : Vec Ideal S1x256x384 .f32) (ix3 0 n d) = (m ((c : Thread nD τ).loc main_arg1) : S8x256x384.Idx → EReal) (ix3 b n d) := by
  unfold iblk
  rw [View.read_apply]
  show V m c main_arg1 _ = m (c.tc.loc main_arg1) _
  unfold V
  congr 1
  obtain ⟨h0, h1, h2⟩ := index1 (point b)
  funext a
  apply Fin.ext
  match a with
  | ⟨0, _⟩ => show win0_1.index (point b) 0 * 1 + 1 * 0 = b.val; rw [h0]; show b.val * 1 + 1 * 0 = b.val; omega
  | ⟨1, _⟩ => show win0_1.index (point b) 1 * 256 + 1 * n.val = n.val; rw [h1]; omega
  | ⟨2, _⟩ => show win0_1.index (point b) 2 * 384 + 1 * d.val = d.val; rw [h2]; omega

/-- The two arrays the grid writes: block `b` is what point `b` leaves. -/
def whole2 (c : Dev nD) : S8x256x384.Idx → EReal := fun y => (outsAt0 m c (point (y 0))).1 (ix3 0 (y 1) (y 2))
def whole3 (c : Dev nD) : S8x1x256.Idx → EReal := fun y => (outsAt0 m c (point (y 0))).2 (ix3 0 0 (y 2))

theorem pick {α β γ : Type} (f : α → β → γ) {t t' : α} {j j' : β} (ht : t = t') (hj : j = j') : f t j = f t' j' := by
  rw [ht, hj]

theorem flushed2 (c : Dev nD) (t : Fin cfg0.N) :
    (dats m 0 c).flushed 2 t = ((cfg0.win 2).blk t).view.read (Elt Ideal) (whole2 m c) := by
  show (cfg0.win 2).cut (grid0.coords t) ((dats m 0 c).after 2 t) = _
  rw [after0_2]
  obtain ⟨h0, h1, h2⟩ := index2 t
  funext j
  rw [View.read_apply]
  have hj : (j 0).val < 1 := (j 0).isLt
  refine pick (fun t => (outsAt0 m c t).1) ?_ ?_
  · apply Fin.ext
    show t.val = win0_2.index t 0 * 1 + 1 * (j 0).val
    rw [h0]; omega
  · funext a
    apply Fin.ext
    match a with
    | ⟨0, _⟩ => show (j 0).val = 0; omega
    | ⟨1, _⟩ => show (j 1).val = win0_2.index t 1 * 256 + 1 * (j 1).val; rw [h1]; omega
    | ⟨2, _⟩ => show (j 2).val = win0_2.index t 2 * 384 + 1 * (j 2).val; rw [h2]; omega

theorem flushed3 (c : Dev nD) (t : Fin cfg0.N) :
    (dats m 0 c).flushed 3 t = ((cfg0.win 3).blk t).view.read (Elt Ideal) (whole3 m c) := by
  show (cfg0.win 3).cut (grid0.coords t) ((dats m 0 c).after 3 t) = _
  rw [after0_3]
  obtain ⟨h0, h1, h2⟩ := index3 t
  funext j
  rw [View.read_apply]
  have hj : (j 0).val < 1 := (j 0).isLt
  have hj1 : (j 1).val < 1 := (j 1).isLt
  refine pick (fun t => (outsAt0 m c t).2) ?_ ?_
  · apply Fin.ext
    show t.val = win0_3.index t 0 * 1 + 1 * (j 0).val
    rw [h0]; omega
  · funext a
    apply Fin.ext
    match a with
    | ⟨0, _⟩ => show (j 0).val = 0; omega
    | ⟨1, _⟩ => show (j 1).val = 0; omega
    | ⟨2, _⟩ => show (j 2).val = win0_3.index t 2 * 256 + 1 * (j 2).val; rw [h2]; omega

theorem final2 (c : Dev nD) : (dats m 0 c).arrAt 2 cfg0.N = whole2 m c :=
  (dats m 0 c).arrAt_eq_of_cover 2 (whole2 m c) (fun t _ => flushed2 m c t) fun i =>
    ⟨point (i 0), flush0_2 _, by
      obtain ⟨h0, h1, h2⟩ := index2 (point (i 0))
      show i ∈ ((View.whole main_call0_v0_0).slice (win0_2.rect (point (i 0)))).set
      rw [View.set_slice_whole, Rect.mem_set_unit]
      intro a
      have e1 : (i 1 : Nat) < 256 := (i 1).isLt
      have e2 : (i 2 : Nat) < 384 := (i 2).isLt
      match a with
      | ⟨0, _⟩ =>
        show win0_2.index (point (i 0)) 0 * 1 ≤ (i 0 : Nat) ∧ (i 0 : Nat) < win0_2.index (point (i 0)) 0 * 1 + 1
        rw [h0]; show (i 0).val * 1 ≤ (i 0).val ∧ (i 0).val < (i 0).val * 1 + 1; omega
      | ⟨1, _⟩ => show win0_2.index (point (i 0)) 1 * 256 ≤ (i 1 : Nat) ∧ (i 1 : Nat) < win0_2.index (point (i 0)) 1 * 256 + 256; rw [h1]; omega
      | ⟨2, _⟩ => show win0_2.index (point (i 0)) 2 * 384 ≤ (i 2 : Nat) ∧ (i 2 : Nat) < win0_2.index (point (i 0)) 2 * 384 + 384; rw [h2]; omega⟩

theorem final3 (c : Dev nD) : (dats m 0 c).arrAt 3 cfg0.N = whole3 m c :=
  (dats m 0 c).arrAt_eq_of_cover 3 (whole3 m c) (fun t _ => flushed3 m c t) fun i =>
    ⟨point (i 0), flush0_3 _, by
      obtain ⟨h0, h1, h2⟩ := index3 (point (i 0))
      show i ∈ ((View.whole main_call0_v0_1).slice (win0_3.rect (point (i 0)))).set
      rw [View.set_slice_whole, Rect.mem_set_unit]
      intro a
      have e1 : (i 1 : Nat) < 1 := (i 1).isLt
      have e2 : (i 2 : Nat) < 256 := (i 2).isLt
      match a with
      | ⟨0, _⟩ =>
        show win0_3.index (point (i 0)) 0 * 1 ≤ (i 0 : Nat) ∧ (i 0 : Nat) < win0_3.index (point (i 0)) 0 * 1 + 1
        rw [h0]; show (i 0).val * 1 ≤ (i 0).val ∧ (i 0).val < (i 0).val * 1 + 1; omega
      | ⟨1, _⟩ => show win0_3.index (point (i 0)) 1 * 1 ≤ (i 1 : Nat) ∧ (i 1 : Nat) < win0_3.index (point (i 0)) 1 * 1 + 1; rw [h1]; omega
      | ⟨2, _⟩ => show win0_3.index (point (i 0)) 2 * 256 ≤ (i 2 : Nat) ∧ (i 2 : Nat) < win0_3.index (point (i 0)) 2 * 256 + 256; rw [h2]; omega⟩

/-- The first result: the rows below 192 of the first array. -/
def kernelOut (x : S8x256x384.Idx → EReal) : S8x192x384.Idx → EReal :=
  extractStridedSlice S8x192x384 ![0, 0, 0] x slices_S8x256x384_S8x192x384_0_0_0

/-- The second result: the places below 192 of the second array, rounded to a whole number. -/
def kernelSizes (x : S8x1x256.Idx → EReal) : IVec S8x192 32 :=
  fptosi (F := Ideal) (φ := .f32) 32 (Host.roundeven (F := Ideal) (φ := .f32)
    (shapeCast S8x192 (extractStridedSlice S8x1x192 ![0, 0, 0] x slices_S8x1x256_S8x1x192_0_0_0) (by decide)))

theorem suffix_out (V : Valuation τ sig (Elt Ideal)) :
    StableHlo.after (hostOps1 (F := Ideal)) V (Proc.devRef .tc main_v0_0) = kernelOut (V (Proc.devRef .tc main_call0_v0_0)) := by
  unfold hostOps1
  after_results
  rfl

theorem suffix_sizes (V : Valuation τ sig (Elt Ideal)) :
    StableHlo.after (hostOps1 (F := Ideal)) V (Proc.devRef .tc main_v0_1) = kernelSizes (V (Proc.devRef .tc main_call0_v0_1)) := by
  unfold hostOps1
  after_results
  rfl

/-- The kernel ends with its results at these arrays and its arguments unchanged. -/
theorem kernel_run : θ_run defs (onTc (τ := τ) (main (F := Ideal))) ⟨m, fun _ => 0, ρ⟩ fun r => ∀ c : Dev nD,
      r.2.mem ((c : Thread nD τ).loc main_v0_0) = kernelOut (whole2 m c)
      ∧ r.2.mem ((c : Thread nD τ).loc main_v0_1) = kernelSizes (whole3 m c)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ?_, ?_, ?_⟩) (run_main m ρ)
  · refine ((h c).2 main_v0_0 (Pipeline.mem_restRefs_of _ (by decide) (by decide))).trans ?_
    unfold Pipeline.afterTail₀
    rw [List.flatten_cons, List.flatten_nil, List.append_nil, suffix_out]
    refine congrArg kernelOut ?_
    exact (Pipeline.withArrays_arr spec0 launch0.win.arr_inj c _ _ 2).trans (final2 m c)
  · refine ((h c).2 main_v0_1 (Pipeline.mem_restRefs_of _ (by decide) (by decide))).trans ?_
    unfold Pipeline.afterTail₀
    rw [List.flatten_cons, List.flatten_nil, List.append_nil, suffix_sizes]
    refine congrArg kernelSizes ?_
    exact (Pipeline.withArrays_arr spec0 launch0.win.arr_inj c _ _ 3).trans (final3 m c)
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.Greedy

end
-- ==== Proof.Sorts.lean ====
/-
  Stable sorts: where a stable sort of the positions leaves them (by the comparator, ties in their old order), which positions
  come first when only an initial set matters, and the host's sorts of a vector and of a matrix's rows read at an index.
-/
module

public import proofs.«01_k».proof.Proof.Words
public import Idealize.ShloMosaic.Lib.SortFacts

@[expose] public section

noncomputable section

namespace Cert.Greedy

open Idealize.ShloMosaic

/-- "`a` may stand before `b`": the comparator puts it there, or it prefers neither and `a` stood first. -/
def Stands {ι : Type} (B : ι → ι → Bool) (P : ι → ι → Prop) (a b : ι) : Prop := B b a = false ∧ (B a b = true ∨ P a b)

/-- Inserting an element that stood before all of a list into the list in sorted order. -/
theorem stands_insert {ι : Type} {B : ι → ι → Bool} {P : ι → ι → Prop} (has : ∀ a b, B a b = true → B b a = false)
    (hneg : ∀ a b c, B a b = false → B b c = false → B a c = false) (a : ι) (l : List ι) (ha : ∀ b ∈ l, P a b)
    (hl : l.Pairwise (Stands B P)) : (insertBefore B a l).Pairwise (Stands B P) := by
  induction l with
  | nil => simp [insertBefore]
  | cons b l ih =>
    obtain ⟨hb, hl'⟩ := List.pairwise_cons.1 hl
    unfold insertBefore
    split
    · next h =>
      refine List.pairwise_cons.2 ⟨fun x hx => ?_, ih (fun x hx => ha x (List.mem_cons_of_mem _ hx)) hl'⟩
      rcases List.mem_cons.1 ((perm_insertBefore B a l).mem_iff.1 hx) with rfl | hx'
      · exact ⟨has _ _ h, Or.inl h⟩
      · exact hb x hx'
    · next h =>
      have hba : B b a = false := by simpa using h
      refine List.pairwise_cons.2 ⟨fun x hx => ⟨?_, Or.inr (ha x hx)⟩, hl⟩
      rcases List.mem_cons.1 hx with rfl | hx'
      · exact hba
      · exact hneg _ _ _ (hb x hx').1 hba

/-- The stable sort of a list leaves every element where it may stand. -/
theorem stands_sort {ι : Type} {B : ι → ι → Bool} {P : ι → ι → Prop} (has : ∀ a b, B a b = true → B b a = false)
    (hneg : ∀ a b c, B a b = false → B b c = false → B a c = false) (l : List ι) (hl : l.Pairwise P) :
    (stableSort B l).Pairwise (Stands B P) := by
  induction l with
  | nil => simp [stableSort]
  | cons a l ih =>
    obtain ⟨ha, hl'⟩ := List.pairwise_cons.1 hl
    unfold stableSort
    exact stands_insert has hneg a _ (fun b hb => ha b ((perm_stableSort B l).mem_iff.1 hb)) (ih hl')

/-- Of two sorted positions the earlier one's source is not after the later one's, and is before it or stood first. -/
theorem sorted_stands {n : ℕ} {B : Fin n → Fin n → Bool} (has : ∀ a b, B a b = true → B b a = false)
    (hneg : ∀ a b c, B a b = false → B b c = false → B a c = false) {p q : Fin n} (h : p < q) :
    B (sortedFrom B q) (sortedFrom B p) = false ∧ (B (sortedFrom B p) (sortedFrom B q) = true ∨ sortedFrom B p < sortedFrom B q) := by
  have hp : ∀ a b : Fin (sortPositions n B).length, a < b →
      Stands B (· < ·) ((sortPositions n B).get a) ((sortPositions n B).get b) :=
    List.pairwise_iff_get.1 (stands_sort has hneg (List.finRange n) (List.pairwise_lt_finRange n))
  unfold sortedFrom
  exact hp _ _ (by simp only [Fin.lt_def, Fin.val_cast]; exact h)

/-- A set of positions that is closed downwards holds exactly the positions below its size. -/
theorem mem_iff_lt_card {n : ℕ} {D : Finset (Fin n)} (hD : ∀ p q : Fin n, p < q → q ∈ D → p ∈ D) (p : Fin n) :
    p ∈ D ↔ p.val < D.card := by
  constructor
  · intro h
    have hsub : Finset.Iic p ⊆ D := fun x hx => by
      rcases lt_or_eq_of_le (Finset.mem_Iic.1 hx) with h1 | h1
      · exact hD x p h1 h
      · exact h1 ▸ h
    have := Finset.card_le_card hsub
    rw [Fin.card_Iic] at this
    omega
  · intro h
    by_contra hn
    have hsub : D ⊆ Finset.Iio p := fun x hx => by
      rw [Finset.mem_Iio]
      rcases lt_trichotomy x p with h1 | h1 | h1
      · exact h1
      · exact absurd (h1 ▸ hx) hn
      · exact absurd (hD p x h1 hx) hn
    have := Finset.card_le_card hsub
    rw [Fin.card_Iio] at this
    omega

/-- The host's sort of a vector, read at an index. -/
theorem sort_vec {n : ℕ} {α : Type} (cmp : α → α → BitVec 1) (x : (⟨1, ![n]⟩ : Shape).Idx → α) (p : Fin n) :
    Host.sort ⟨1, ![n]⟩ 0 cmp x (ix1 p) = x (ix1 (sortedFrom (fun k k' => cmp (x (ix1 k)) (x (ix1 k')) == 1#1) p)) := by
  have ha : ∀ k : Fin n, (ix1 p : (⟨1, ![n]⟩ : Shape).Idx).along (0 : Fin 1) k = ix1 k := fun k => by
    funext a
    obtain rfl : a = 0 := Subsingleton.elim _ _
    rfl
  have key : ∀ f : Fin n → (⟨1, ![n]⟩ : Shape).Idx, (f = fun k => ix1 k) →
      x (f (sortedFrom (fun k k' => cmp (x (f k)) (x (f k')) == 1#1) p))
        = x (ix1 (sortedFrom (fun k k' => cmp (x (ix1 k)) (x (ix1 k')) == 1#1) p)) := by
    rintro _ rfl; rfl
  unfold Host.sort
  rw [dif_pos (show 0 < (⟨1, ![n]⟩ : Shape).rank from Nat.one_pos)]
  exact key (fun k => (ix1 p : (⟨1, ![n]⟩ : Shape).Idx).along (0 : Fin 1) k) (funext ha)

/-- The host's sort of a matrix's rows with a second matrix carried along: the second one, read at an index. -/
theorem sort2_row {m n : ℕ} {α β : Type} (cmp : α × β → α × β → BitVec 1) (x : (⟨2, ![m, n]⟩ : Shape).Idx → α)
    (y : (⟨2, ![m, n]⟩ : Shape).Idx → β) (b : Fin m) (p : Fin n) :
    (Host.sort2 ⟨2, ![m, n]⟩ 1 cmp x y).2 (ix2 b p)
      = y (ix2 b (sortedFrom (fun k k' => cmp (x (ix2 b k), y (ix2 b k)) (x (ix2 b k'), y (ix2 b k')) == 1#1) p)) := by
  have ha : ∀ k : Fin n, (ix2 b p : (⟨2, ![m, n]⟩ : Shape).Idx).along (1 : Fin 2) k = ix2 b k := fun k => by
    funext a
    match a with
    | ⟨0, _⟩ => rfl
    | ⟨1, _⟩ => rfl
  have key : ∀ f : Fin n → (⟨2, ![m, n]⟩ : Shape).Idx, (f = fun k => ix2 b k) →
      y (f (sortedFrom (fun k k' => cmp (x (f k), y (f k)) (x (f k'), y (f k')) == 1#1) p))
        = y (ix2 b (sortedFrom (fun k k' => cmp (x (ix2 b k), y (ix2 b k)) (x (ix2 b k'), y (ix2 b k')) == 1#1) p)) := by
    rintro _ rfl; rfl
  unfold Host.sort2
  rw [dif_pos (show 1 < (⟨2, ![m, n]⟩ : Shape).rank from Nat.one_lt_two)]
  exact key (fun k => (ix2 b p : (⟨2, ![m, n]⟩ : Shape).Idx).along (1 : Fin 2) k) (funext ha)

/-! ## The pairs of nodes in row-major order -/

/-- The pairs `(a, b)` with `a < b`. -/
abbrev Upper := {q : Node × Node // q.1 < q.2}

/-- There are 32640 pairs. -/
theorem card_upper : (Finset.univ.filter fun q : Node × Node => q.1 < q.2).card = 32640 := by
  have h : (Finset.univ.filter fun q : Node × Node => q.1 < q.2).card = ∑ a : Node, (Finset.Ioi a).card := by
    rw [← Finset.card_sigma]
    refine Finset.card_bij' (fun q _ => ⟨q.1, q.2⟩) (fun q _ => (q.1, q.2)) ?_ ?_ ?_ ?_ <;> simp
  rw [h]
  simp only [Fin.card_Ioi]
  decide +kernel

/-- The place of a pair as a position of the flattened matrix. -/
def pos (q : Node × Node) : Fin 65536 := ⟨lin q.1 q.2, lin_lt _ _⟩

/-- The pair at a position. -/
def pairAt (p : Fin 65536) : Node × Node := (⟨p.val / 256, by omega⟩, ⟨p.val % 256, by omega⟩)

theorem pos_pairAt (p : Fin 65536) : pos (pairAt p) = p := Fin.ext (by simp only [pos, pairAt, lin]; omega)

theorem pairAt_pos (q : Node × Node) : pairAt (pos q) = q := by
  refine Prod.ext (Fin.ext ?_) (Fin.ext ?_) <;> simp only [pos, pairAt, lin] <;> omega

theorem pos_inj {q r : Node × Node} (h : pos q = pos r) : q = r := by rw [← pairAt_pos q, h, pairAt_pos]

/-- The flattened matrix that holds a pair's place above the diagonal and 65536 elsewhere. -/
def flat (p : Fin 65536) : ℕ := if (pairAt p).1 < (pairAt p).2 then p.val else 65536

/-- Sorting that matrix: the first 32640 entries are the places of the pairs in increasing order. -/
theorem sorted_flat : ∃ e : Fin 32640 → Node × Node, (∀ p, (e p).1 < (e p).2)
    ∧ (∀ p q, p < q → lin (e p).1 (e p).2 < lin (e q).1 (e q).2) ∧ (∀ a b : Node, a < b → ∃ p, e p = (a, b))
    ∧ ∀ p : Fin 32640, flat (sortedFrom (fun k k' => decide (flat k < flat k')) ⟨p.val, by omega⟩) = lin (e p).1 (e p).2 := by
  set s : Fin 65536 → Fin 65536 := sortedFrom (fun k k' => decide (flat k < flat k')) with hs
  have hmono : ∀ p q : Fin 65536, p < q → flat (s p) ≤ flat (s q) := fun p q h => by
    have := (sorted_stands (B := fun k k' : Fin 65536 => decide (flat k < flat k'))
      (fun a b h => by simp only [decide_eq_true_eq, decide_eq_false_iff_not] at h ⊢; omega)
      (fun a b c h h' => by simp only [decide_eq_false_iff_not] at h h' ⊢; omega) h).1
    simpa using this
  have hsurj : Function.Surjective s := sortedFrom_surjective _
  have hinj : Function.Injective s := sortedFrom_injective _
  have hflat : ∀ p : Fin 65536, flat p < 65536 ↔ (pairAt p).1 < (pairAt p).2 := fun p => by
    unfold flat
    split
    · next h => exact ⟨fun _ => h, fun _ => p.isLt⟩
    · next h => exact ⟨fun h' => absurd h' (lt_irrefl _), fun h' => absurd h' h⟩
  have hval : ∀ p : Fin 65536, (pairAt p).1 < (pairAt p).2 → flat p = p.val := fun p h => if_pos h
  let D : Finset (Fin 65536) := Finset.univ.filter fun p => (pairAt (s p)).1 < (pairAt (s p)).2
  have hD : ∀ p q : Fin 65536, p < q → q ∈ D → p ∈ D := fun p q h hq => by
    have hq' := (hflat _).2 (Finset.mem_filter.1 hq).2
    exact Finset.mem_filter.2 ⟨Finset.mem_univ _, (hflat _).1 (lt_of_le_of_lt (hmono p q h) hq')⟩
  have hcard : D.card = 32640 := by
    rw [← card_upper]
    refine Finset.card_bij (fun p _ => pairAt (s p)) (fun p hp => Finset.mem_filter.2 ⟨Finset.mem_univ _, (Finset.mem_filter.1 hp).2⟩)
      (fun p _ q _ h => hinj (by rw [← pos_pairAt (s p), h, pos_pairAt])) (fun q hq => ?_)
    obtain ⟨p, hp⟩ := hsurj (pos q)
    have hpq : pairAt (s p) = q := by rw [hp, pairAt_pos]
    exact ⟨p, Finset.mem_filter.2 ⟨Finset.mem_univ _, by rw [hpq]; exact (Finset.mem_filter.1 hq).2⟩, hpq⟩
  have hmem : ∀ p : Fin 65536, (pairAt (s p)).1 < (pairAt (s p)).2 ↔ p.val < 32640 := fun p => by
    rw [← hcard, ← mem_iff_lt_card hD]
    simp [D]
  have hlin : ∀ p : Fin 65536, lin (pairAt p).1 (pairAt p).2 = p.val := fun p => congrArg Fin.val (pos_pairAt p)
  refine ⟨fun p => pairAt (s ⟨p.val, by omega⟩), fun p => (hmem _).2 p.isLt, fun p q h => ?_, fun a b h => ?_, fun p => ?_⟩
  · have h1 := hmono ⟨p.val, by omega⟩ ⟨q.val, by omega⟩ h
    rw [hval _ ((hmem _).2 p.isLt), hval _ ((hmem _).2 q.isLt)] at h1
    rw [hlin, hlin]
    refine lt_of_le_of_ne h1 fun h2 => ?_
    have h3 := hinj (Fin.ext h2)
    rw [Fin.mk.injEq] at h3
    exact absurd (Fin.ext h3) (ne_of_lt h)
  · obtain ⟨p, hp⟩ := hsurj (pos (a, b))
    have hpq : pairAt (s p) = (a, b) := by rw [hp, pairAt_pos]
    exact ⟨⟨p.val, (hmem p).1 (by rw [hpq]; exact h)⟩, hpq⟩
  · rw [hlin]; exact hval _ ((hmem _).2 p.isLt)

end Cert.Greedy

end
-- ==== Proof.Take.lean ====
/-
  The reference's gathers, read at an index: in every batch, the entries (or the rows) of an array at the places that an index array
  names. Where the index is a place of the array, the gather reads that place.
-/
module

public import proofs.«01_k».proof.ReferenceIdeal
public import proofs.«01_k».proof.Proof.Gen.ReferenceIdeal
public import proofs.«01_k».proof.Proof.Words

@[expose] public section

noncomputable section

namespace Cert.Greedy

open Idealize.ShloMosaic

variable {α : Type}

/-- The dimension numbers of a gather of single entries, batch by batch. -/
abbrev entryDims (B N R : ℕ) (wf : GatherDims.WF ⟨2, ![B, N]⟩ ⟨3, ![B, R, 1]⟩ ⟨2, ![B, R]⟩ [] [1] [0] [1] [0] 2 ![1, 1]) :
    GatherDims ⟨2, ![B, N]⟩ ⟨3, ![B, R, 1]⟩ ⟨2, ![B, R]⟩ where
  offsetDims := []
  collapsedSliceDims := [1]
  operandBatchingDims := [0]
  startIndicesBatchingDims := [0]
  startIndexMap := [1]
  indexVectorDim := 2
  sliceSizes := ![1, 1]
  wf := wf

/-- A gather of single entries reads, in batch `b`, the entry that the index names. -/
theorem entry_apply {B N R : ℕ} (wf : GatherDims.WF ⟨2, ![B, N]⟩ ⟨3, ![B, R, 1]⟩ ⟨2, ![B, R]⟩ [] [1] [0] [1] [0] 2 ![1, 1])
    (x : (⟨2, ![B, N]⟩ : Shape).Idx → α) (idx : IVec ⟨3, ![B, R, 1]⟩ 32) (b : Fin B) (r : Fin R) (n : Fin N) (hN : N < 2 ^ 31)
    (h : idx (ix3 b r 0) = word n.val) : Host.gather (entryDims B N R wf) x idx (ix2 b r) = x (ix2 b n) := by
  unfold Host.gather
  congr 1
  funext a
  refine Fin.ext ?_
  show (entryDims B N R wf).start (ix2 b r) idx a + (entryDims B N R wf).batchCoord (ix2 b r) a
      + (entryDims B N R wf).offCoord (ix2 b r) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (entryDims B N R wf).startIndexMap from List.mem_singleton.mpr rfl)]
    have hsi : (entryDims B N R wf).siIdx (ix2 b r) ⟨List.idxOf (1 : Fin 2) (entryDims B N R wf).startIndexMap,
        List.idxOf_lt_length_iff.2 (List.mem_singleton.mpr rfl)⟩ = ix3 b r 0 := by
      funext c; refine Fin.ext ?_
      match c with
      | ⟨0, _⟩ => rfl
      | ⟨1, _⟩ => rfl
      | ⟨2, _⟩ => rfl
    rw [hsi, h, word_toInt (lt_trans n.isLt hN)]
    show min (Int.toNat n.val) (N - 1) = n.val
    have := n.isLt
    rw [Int.toNat_natCast]
    omega

/-- The dimension numbers of a gather of rows, batch by batch. -/
abbrev rowDims (B N R C : ℕ) (wf : GatherDims.WF ⟨3, ![B, N, C]⟩ ⟨3, ![B, R, 1]⟩ ⟨3, ![B, R, C]⟩ [2] [1] [0] [1] [0] 2 ![1, 1, C]) :
    GatherDims ⟨3, ![B, N, C]⟩ ⟨3, ![B, R, 1]⟩ ⟨3, ![B, R, C]⟩ where
  offsetDims := [2]
  collapsedSliceDims := [1]
  operandBatchingDims := [0]
  startIndicesBatchingDims := [0]
  startIndexMap := [1]
  indexVectorDim := 2
  sliceSizes := ![1, 1, C]
  wf := wf

/-- A gather of rows reads, in batch `b`, the row that the index names. -/
theorem row_apply {B N R C : ℕ} (wf : GatherDims.WF ⟨3, ![B, N, C]⟩ ⟨3, ![B, R, 1]⟩ ⟨3, ![B, R, C]⟩ [2] [1] [0] [1] [0] 2 ![1, 1, C])
    (x : (⟨3, ![B, N, C]⟩ : Shape).Idx → α) (idx : IVec ⟨3, ![B, R, 1]⟩ 32) (b : Fin B) (r : Fin R) (c : Fin C) (n : Fin N)
    (hN : N < 2 ^ 31) (h : idx (ix3 b r 0) = word n.val) :
    Host.gather (rowDims B N R C wf) x idx (ix3 b r c) = x (ix3 b n c) := by
  unfold Host.gather
  congr 1
  funext a
  refine Fin.ext ?_
  show (rowDims B N R C wf).start (ix3 b r c) idx a + (rowDims B N R C wf).batchCoord (ix3 b r c) a
      + (rowDims B N R C wf).offCoord (ix3 b r c) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims B N R C wf).startIndexMap from List.mem_singleton.mpr rfl)]
    have hsi : (rowDims B N R C wf).siIdx (ix3 b r c) ⟨List.idxOf (1 : Fin 3) (rowDims B N R C wf).startIndexMap,
        List.idxOf_lt_length_iff.2 (List.mem_singleton.mpr rfl)⟩ = ix3 b r 0 := by
      funext c; refine Fin.ext ?_
      match c with
      | ⟨0, _⟩ => rfl
      | ⟨1, _⟩ => rfl
      | ⟨2, _⟩ => rfl
    rw [hsi, h, word_toInt (lt_trans n.isLt hN)]
    show min (Int.toNat n.val) (N - 1) = n.val
    have := n.isLt
    rw [Int.toNat_natCast]
    omega
  · rw [GatherDims.batchCoord_eq_zero _ _ _ (fun h => by simp at h)]
    unfold GatherDims.start
    rw [dif_neg (show (2 : Fin 3) ∉ (rowDims B N R C wf).startIndexMap from fun h => by simp at h)]
    simp only [Nat.zero_add]
    unfold GatherDims.offCoord
    rw [dif_pos ((GatherDims.mem_sKept _ _).mpr ⟨fun h => by simp at h, fun h => by simp at h⟩)]
    rfl

open Cert.ReferenceIdeal Cert.ReferenceIdeal.Gen

/-- Entries of a row of 65536, 32640 of them. -/
theorem take_flat (x : S8x65536.Idx → α) (idx : IVec S8x32640x1 32) (b : Fin 8) (r : Fin 32640) (n : Fin 65536)
    (h : idx (ix3 b r 0) = word n.val) :
    Host.gather gather_S8x65536_S8x32640x1_S8x32640_n_1_0_0_1_2_11 x idx (ix2 b r) = x (ix2 b n) :=
  entry_apply _ x idx b r n (by norm_num) h

/-- Entries of a row of 32640, 32640 of them. -/
theorem take_sorted (x : S8x32640.Idx → α) (idx : IVec S8x32640x1 32) (b : Fin 8) (r : Fin 32640) (n : Fin 32640)
    (h : idx (ix3 b r 0) = word n.val) :
    Host.gather gather_S8x32640_S8x32640x1_S8x32640_n_1_0_0_1_2_11 x idx (ix2 b r) = x (ix2 b n) :=
  entry_apply _ x idx b r n (by norm_num) h

/-- One entry of a row of 32640. -/
theorem take_first (x : S8x32640.Idx → α) (idx : IVec S8x1x1 32) (b : Fin 8) (n : Fin 32640) (h : idx (ix3 b 0 0) = word n.val) :
    Host.gather gather_S8x32640_S8x1x1_S8x1_n_1_0_0_1_2_11 x idx (ix2 b 0) = x (ix2 b n) :=
  entry_apply _ x idx b 0 n (by norm_num) h

/-- One entry of a row of 256. -/
theorem take_node (x : S8x256.Idx → α) (idx : IVec S8x1x1 32) (b : Fin 8) (n : Node) (h : idx (ix3 b 0 0) = word n.val) :
    Host.gather gather_S8x256_S8x1x1_S8x1_n_1_0_0_1_2_11 x idx (ix2 b 0) = x (ix2 b n) :=
  entry_apply _ x idx b 0 n (by norm_num) h

/-- One row of a square. -/
theorem take_row (x : S8x256x256.Idx → α) (idx : IVec S8x1x1 32) (b : Fin 8) (c n : Node) (h : idx (ix3 b 0 0) = word n.val) :
    Host.gather gather_S8x256x256_S8x1x1_S8x1x256_2_1_0_0_1_2_11256 x idx (ix3 b 0 c) = x (ix3 b n c) :=
  row_apply _ x idx b 0 c n (by norm_num) h

/-- The 192 rows of a square that are kept. -/
theorem take_rows (x : S8x256x256.Idx → α) (idx : IVec S8x192x1 32) (b : Fin 8) (r : Fin 192) (c n : Node)
    (h : idx (ix3 b r 0) = word n.val) :
    Host.gather gather_S8x256x256_S8x192x1_S8x192x256_2_1_0_0_1_2_11256 x idx (ix3 b r c) = x (ix3 b n c) :=
  row_apply _ x idx b r c n (by norm_num) h

end Cert.Greedy

end
-- ==== Proof.Order.lean ====
/-
  What the reference holds before its loop: the pairs of nodes in row-major order, their scores, and the pairs in descending order of
  score, equal scores in row-major order.
-/
module

public import proofs.«01_k».proof.Proof.Gen.ReferenceIdeal.Step
public import proofs.«01_k».proof.Proof.Score
public import proofs.«01_k».proof.Proof.Sorts
public import proofs.«01_k».proof.Proof.Take
public import Idealize.ShloMosaic.Lib.Pointwise
public import Idealize.ShloMosaic.Lib.Routing.Ops

@[expose] public section

set_option maxRecDepth 16384

noncomputable section

namespace Cert.Greedy

open Idealize.ShloMosaic Cert.ReferenceIdeal Cert.ReferenceIdeal.Step

/-- The pairs in row-major order. -/
def upper : Fin 32640 → Node × Node := sorted_flat.choose

theorem upper_lt (p : Fin 32640) : (upper p).1 < (upper p).2 := sorted_flat.choose_spec.1 p

theorem upper_mono (p q : Fin 32640) (h : p < q) : lin (upper p).1 (upper p).2 < lin (upper q).1 (upper q).2 :=
  sorted_flat.choose_spec.2.1 p q h

theorem upper_surj (a b : Node) (h : a < b) : ∃ p, upper p = (a, b) := sorted_flat.choose_spec.2.2.1 a b h

theorem upper_flat (p : Fin 32640) :
    flat (sortedFrom (fun k k' => decide (flat k < flat k')) ⟨p.val, by omega⟩) = lin (upper p).1 (upper p).2 :=
  sorted_flat.choose_spec.2.2.2 p

/-- Which pair stands at which place when the pairs are sorted by descending score. -/
def order (S : Node → Node → EReal) : Fin 32640 → Fin 32640 :=
  sortedFrom fun k k' => decide (S (upper k').1 (upper k').2 < S (upper k).1 (upper k).2)

/-- The pairs in descending order of score. -/
def ranked (S : Node → Node → EReal) (p : Fin 32640) : Node × Node := upper (order S p)

theorem ranked_lt (S : Node → Node → EReal) (p : Fin 32640) : (ranked S p).1 < (ranked S p).2 := upper_lt _

theorem ranked_surj (S : Node → Node → EReal) (a b : Node) (h : a < b) : ∃ p, ranked S p = (a, b) := by
  obtain ⟨q, hq⟩ := upper_surj a b h
  obtain ⟨p, hp⟩ := sortedFrom_surjective (fun k k' => decide (S (upper k').1 (upper k').2 < S (upper k).1 (upper k).2)) q
  exact ⟨p, by unfold ranked order; rw [hp, hq]⟩

/-- An earlier pair has the larger score, or the same score and the earlier place in row-major order. -/
theorem ranked_order (S : Node → Node → EReal) {p q : Fin 32640} (h : p < q) :
    S (ranked S q).1 (ranked S q).2 < S (ranked S p).1 (ranked S p).2
      ∨ (S (ranked S p).1 (ranked S p).2 = S (ranked S q).1 (ranked S q).2
        ∧ lin (ranked S p).1 (ranked S p).2 < lin (ranked S q).1 (ranked S q).2) := by
  obtain ⟨h1, h2⟩ := sorted_stands (B := fun k k' : Fin 32640 => decide (S (upper k').1 (upper k').2 < S (upper k).1 (upper k).2))
    (fun a b h => by simp only [decide_eq_true_eq, decide_eq_false_iff_not] at h ⊢; exact not_lt.2 h.le)
    (fun a b c h h' => by simp only [decide_eq_false_iff_not, not_lt] at h h' ⊢; exact h.trans h') h
  simp only [decide_eq_true_eq, decide_eq_false_iff_not, not_lt] at h1 h2
  rcases h2 with h2 | h2
  · exact Or.inl h2
  · rcases lt_or_eq_of_le h1 with h3 | h3
    · exact Or.inl h3
    · exact Or.inr ⟨h3.symm, upper_mono _ _ h2⟩

/-! ## The tables that do not depend on the arguments -/

theorem flat_le (q : Fin 65536) : flat q ≤ 65536 := by unfold flat; split <;> omega

/-- The matrix of places, above the diagonal. -/
theorem v9_eq (a b : Node) : K_main_v9 (F := Ideal) (ix2 a b) = if a < b then word (lin a b) else word 65536 := by
  pointwise [K_main_v9, K_main_v8, K_main_c_0, K_main_v7, K_main_v6, K_main_v5, K_main_v4, K_main_c, K_main_v1, K_main_v0]
  rw [word_lin, cmpi_sgt_word (by omega) (by omega), select_ofBool]
  rfl

/-- The same, flattened. -/
theorem v10_eq (q : Fin 65536) : K_main_v10 (F := Ideal) (ix1 q) = word (flat q) := by
  pointwise [K_main_v10]
  rw [v9_eq]
  have h : lin (pairAt q).1 (pairAt q).2 = q.val := congrArg Fin.val (pos_pairAt q)
  show (if (pairAt q).1 < (pairAt q).2 then word (lin (pairAt q).1 (pairAt q).2) else word 65536) = _
  rw [h]
  unfold flat
  split <;> rfl

/-- The comparison of the sort of places is that of the numbers. -/
theorem comparator_flat (k k' : Fin 65536) : (comparator_i32_d0 (word (flat k)) (word (flat k')) == 1#1) = decide (flat k < flat k') := by
  have h1 := flat_le k
  have h2 := flat_le k'
  unfold comparator_i32_d0 IntOp.cmpi
  simp only [BitVec.slt_eq_decide, word_toInt (show flat k < 2 ^ 31 by omega), word_toInt (show flat k' < 2 ^ 31 by omega), Nat.cast_lt]
  by_cases h : flat k < flat k' <;> simp [h]

/-- The places of the pairs, in order. -/
theorem v12_eq (p : Fin 32640) : K_main_v12 (F := Ideal) (ix1 p) = word (lin (upper p).1 (upper p).2) := by
  pointwise [K_main_v12]
  unfold K_main_v11
  refine (sort_vec comparator_i32_d0 (K_main_v10 (F := Ideal)) ⟨p.val, by omega⟩).trans ?_
  simp only [v10_eq, comparator_flat]
  rw [upper_flat]

theorem v3_eq (b : Fin 8) (p : Fin 32640) : K_main_v3 (F := Ideal) (ix2 b p) = word p.val := by
  pointwise [K_main_v3]

theorem v14_eq (b : Fin 8) (p : Fin 32640) : K_main_v14 (F := Ideal) (ix2 b p) = word (lin (upper p).1 (upper p).2) := by
  pointwise [K_main_v14, K_main_v13]
  exact v12_eq p

theorem v24_eq (b : Fin 8) (p : Fin 32640) : K_main_v24 (F := Ideal) (ix3 b p 0) = word (lin (upper p).1 (upper p).2) := by
  pointwise [K_main_v24]
  exact v14_eq b p

theorem v37_eq (b : Fin 8) (g n : Node) : K_main_v37 (F := Ideal) (ix3 b g n) = BitVec.ofBool (decide (n = g)) := by
  pointwise [K_main_v37, K_main_v36, K_main_v35, K_main_v0, K_main_v1]
  rw [cmpi_eq_word]
  simp only [eq_comm]

/-! ## The scores and their order -/

variable (x : S8x256x384.Idx → EReal) (b : Fin 8)

/-- The rows of a batch. -/
abbrev rowsOf : Rows := fun n d => x (ix3 b n d)

theorem v22_eq (i j : Node) : A_main_v22 (F := Ideal) x (ix3 b i j) = score (rowsOf x b) i j := by
  pointwise [A_main_v22, A_main_v21, A_main_v20, A_main_v19, A_main_v18, A_main_v17, A_main_v16, A_main_v15, K_main_cst]
  rfl

theorem v23_eq (q : Node × Node) : A_main_v23 (F := Ideal) x (ix2 b (pos q)) = score (rowsOf x b) q.1 q.2 := by
  have h : A_main_v23 (F := Ideal) x (ix2 b (pos q)) = A_main_v22 (F := Ideal) x (ix3 b (pairAt (pos q)).1 (pairAt (pos q)).2) := by
    pointwise [A_main_v23]
    rfl
  rw [h, pairAt_pos, v22_eq]

theorem v25_eq (p : Fin 32640) : A_main_v25 (F := Ideal) x (ix2 b p) = score (rowsOf x b) (upper p).1 (upper p).2 := by
  unfold A_main_v25
  rw [take_flat _ _ b p (pos (upper p)) (v24_eq b p), v23_eq]

theorem negf_at (y : FVec Ideal S8x32640 .f32) (j : S8x32640.Idx) : Host.negf (F := Ideal) y j = -(y j) := rfl

theorem v26_eq (p : Fin 32640) : A_main_v26 (F := Ideal) x (ix2 b p) = -score (rowsOf x b) (upper p).1 (upper p).2 := by
  unfold A_main_v26
  rw [negf_at, v25_eq]

/-- The comparison of the sort of scores is the order of the extended reals. -/
theorem comparator_lt (l r : EReal × BitVec 32) : comparator_f32_i32_d1 (F := Ideal) l r = BitVec.ofBool (decide (l.1 < r.1)) := by
  have h0 : Ideal.ofBits .f32 0x00000000#32 = 0 := Ideal.ofBits_zero_f32
  have hz : ∀ y : EReal, Scalar.select (Ideal.cmp .oeq y (0 : EReal)) (0 : EReal) y = y := fun y => by
    unfold Ideal.cmp
    rw [select_ofBool]
    split
    · next h => exact h.symm
    · rfl
  have hn : ∀ y w : EReal, ∀ u : EReal, Scalar.select (Ideal.cmp .une y y) u w = w := fun y w u => by
    unfold Ideal.cmp
    rw [select_ofBool, if_neg (by simp)]
  show Ideal.cmp .olt (Scalar.select (Ideal.cmp .une l.1 l.1) (Ideal.ofBits .f32 0x7FC00000#32)
      (Scalar.select (Ideal.cmp .oeq l.1 (Ideal.ofBits .f32 0x00000000#32)) (Ideal.ofBits .f32 0x00000000#32) l.1))
    (Scalar.select (Ideal.cmp .une r.1 r.1) (Ideal.ofBits .f32 0x7FC00000#32)
      (Scalar.select (Ideal.cmp .oeq r.1 (Ideal.ofBits .f32 0x00000000#32)) (Ideal.ofBits .f32 0x00000000#32) r.1)) = _
  rw [hn, hn, h0, hz, hz]
  rfl

theorem sort2_at {α β : Type} (cmp : α × β → α × β → BitVec 1) (u : S8x32640.Idx → α) (v : S8x32640.Idx → β) (b : Fin 8) (p : Fin 32640) :
    (Host.sort2 S8x32640 1 cmp u v).2 (ix2 b p)
      = v (ix2 b (sortedFrom (fun k k' => cmp (u (ix2 b k), v (ix2 b k)) (u (ix2 b k'), v (ix2 b k')) == 1#1) p)) :=
  sort2_row cmp u v b p

/-- The sorted pairs' positions among the pairs in row-major order. -/
theorem v27_eq (p : Fin 32640) : A_main_v27_1 (F := Ideal) x (ix2 b p) = word (order (score (rowsOf x b)) p).val := by
  have h : (fun k k' : Fin 32640 => comparator_f32_i32_d1 (F := Ideal) (A_main_v26 (F := Ideal) x (ix2 b k), K_main_v3 (F := Ideal) (ix2 b k))
      (A_main_v26 (F := Ideal) x (ix2 b k'), K_main_v3 (F := Ideal) (ix2 b k')) == 1#1)
      = fun k k' => decide (score (rowsOf x b) (upper k').1 (upper k').2 < score (rowsOf x b) (upper k).1 (upper k).2) := by
    funext k k'
    rw [comparator_lt, v26_eq, v26_eq]
    simp only [EReal.neg_lt_neg_iff]
    by_cases h : score (rowsOf x b) (upper k').1 (upper k').2 < score (rowsOf x b) (upper k).1 (upper k).2 <;> simp [h]
  unfold A_main_v27_1
  rw [sort2_at, v3_eq, h]
  unfold order
  rfl

/-- The sorted pairs' places. -/
theorem v29_eq (p : Fin 32640) :
    A_main_v29 (F := Ideal) x (ix2 b p) = word (lin (ranked (score (rowsOf x b)) p).1 (ranked (score (rowsOf x b)) p).2) := by
  have h : A_main_v28 (F := Ideal) x (ix3 b p 0) = word (order (score (rowsOf x b)) p).val := by
    pointwise [A_main_v28]
    exact v27_eq x b p
  unfold A_main_v29
  rw [take_sorted _ _ b p (order (score (rowsOf x b)) p) h, v14_eq]
  rfl

/-- The sorted pairs' first nodes. -/
theorem v31_eq (p : Fin 32640) : A_main_v31 (F := Ideal) x (ix2 b p) = word (ranked (score (rowsOf x b)) p).1.val := by
  pointwise [A_main_v31, K_main_v30, K_main_c_1]
  rw [v29_eq]
  have := lin_lt (ranked (score (rowsOf x b)) p).1 (ranked (score (rowsOf x b)) p).2
  rw [← lin_div (ranked (score (rowsOf x b)) p).1 (ranked (score (rowsOf x b)) p).2]
  exact Routing.divsi_word .host (by omega) (by norm_num) (by norm_num)

/-- The sorted pairs' second nodes. -/
theorem v33_eq (p : Fin 32640) : A_main_v33 (F := Ideal) x (ix2 b p) = word (ranked (score (rowsOf x b)) p).2.val := by
  pointwise [A_main_v33, K_main_v32, K_main_c_2]
  rw [v29_eq]
  have := lin_lt (ranked (score (rowsOf x b)) p).1 (ranked (score (rowsOf x b)) p).2
  rw [← lin_mod (ranked (score (rowsOf x b)) p).1 (ranked (score (rowsOf x b)) p).2]
  exact Routing.remsi_word .host (by omega) (by norm_num) (by norm_num)

end Cert.Greedy

end
-- ==== Proof.KernelValue.lean ====
/-
  The kernel's two results, read at an index: in place `r` of batch entry `b`, the mean of the rows of the group whose label has
  rank `r`, and the number of its rows.
-/
module

public import proofs.«01_k».proof.Proof.KernelRun
public import proofs.«01_k».proof.Proof.Order

@[expose] public section

set_option maxRecDepth 16384

noncomputable section

namespace Cert.Greedy

open Idealize.ShloMosaic Idealize.ShloMosaic.TcCoe Cert.KernelIdeal Cert.KernelIdeal.Gen

variable (m : (ℓ : Loc nD τ sig) → Buf (Elt Ideal) ℓ)

/-- Rounding a natural number changes nothing. -/
theorem round_nat (n : ℕ) : Ideal.liftRound Ideal.roundHalfEven ((n : ℝ) : EReal) = ((n : ℝ) : EReal) := by
  show ((((Ideal.roundHalfEven (n : ℝ) : ℤ) : ℝ)) : EReal) = _
  have : Ideal.roundHalfEven (n : ℝ) = (n : ℤ) := by
    unfold Ideal.roundHalfEven
    simp
  rw [this, Int.cast_natCast]

/-- A small natural number as a word. -/
theorem fptosi_nat {n : ℕ} (h : n ≤ 256) : Ideal.fptosi 32 ((n : ℝ) : EReal) = word n := by
  unfold Ideal.fptosi
  have : Ideal.toIntClamped (-(2 ^ (32 - 1) : ℕ)) ((2 ^ (32 - 1) : ℕ) - 1) ((n : ℝ) : EReal) = (n : ℤ) := by
    show max _ (min _ (if (0 : ℝ) ≤ (n : ℝ) then ⌊(n : ℝ)⌋ else ⌈(n : ℝ)⌉)) = _
    rw [if_pos (Nat.cast_nonneg n), Int.floor_natCast]
    norm_num
    omega
  rw [this, BitVec.ofInt_natCast]

/-- The scores of a point's block are those of the batch entry. -/
theorem blockScore_eq (c : Dev nD) (b : Fin 8) :
    blockScore (iblk m c 0 (point b)) = score (rowsOf (m ((c : Thread nD τ).loc main_arg0)) b) := by
  unfold blockScore
  congr 1
  funext n d
  exact block0 m c b n d

variable (c : Dev nD) (b : Fin 8) (r : Fin 192)

/-- The first result. -/
theorem kernelOut_eq (d : Fin 384) :
    kernelOut (whole2 m c) (ix3 b r d)
      = mean (gids (score (rowsOf (m ((c : Thread nD τ).loc main_arg0)) b)) 64) (nth (score (rowsOf (m ((c : Thread nD τ).loc main_arg0)) b)) r)
          (fun n => rowsOf (m ((c : Thread nD τ).loc main_arg1)) b n d) := by
  have hr : r.val < 256 := by omega
  have hL := nth_spec (score (rowsOf (m ((c : Thread nD τ).loc main_arg0)) b)) r
  rw [← blockScore_eq] at hL ⊢
  have e : kernelOut (whole2 m c) (ix3 b r d) = (outsAt0 m c (point b)).1 (ix3 0 ⟨r.val, hr⟩ d) := by
    pointwise [kernelOut]
    rfl
  rw [e]
  unfold outsAt0
  dsimp only
  rw [out2_eq _ _ _ _ _ _ _ _ _ _ _ _ _ _ (r := ⟨r.val, hr⟩) hL d]
  congr 1
  funext n
  exact block1 m c b n d

/-- The second result. -/
theorem kernelSizes_eq :
    kernelSizes (whole3 m c) (ix2 b r)
      = word (count (gids (score (rowsOf (m ((c : Thread nD τ).loc main_arg0)) b)) 64)
          (nth (score (rowsOf (m ((c : Thread nD τ).loc main_arg0)) b)) r)) := by
  have hr : r.val < 256 := by omega
  have hL := nth_spec (score (rowsOf (m ((c : Thread nD τ).loc main_arg0)) b)) r
  rw [← blockScore_eq] at hL ⊢
  have e : kernelSizes (whole3 m c) (ix2 b r)
      = Ideal.fptosi 32 (Ideal.liftRound Ideal.roundHalfEven ((outsAt0 m c (point b)).2 (ix3 0 0 ⟨r.val, hr⟩))) := by
    pointwise [kernelSizes]
    rfl
  rw [e]
  unfold outsAt0
  dsimp only
  rw [out3_eq _ _ _ _ _ _ _ _ _ _ _ _ _ _ (r := ⟨r.val, hr⟩) hL, round_nat, fptosi_nat (count_le _ _)]

end Cert.Greedy

end
-- ==== Proof.RefStep.lean ====
/-
  One trip of the reference's loop: when its arrays hold the groups of a state of the greedy steps, the trip finds the best pair and
  leaves the arrays at the groups of the next state.
-/
module

public import proofs.«01_k».proof.Proof.Order

@[expose] public section

set_option maxRecDepth 16384

noncomputable section

namespace Cert.Greedy

open Idealize.ShloMosaic Cert.ReferenceIdeal Cert.ReferenceIdeal.Step

/-- Batch `b` of the reference's state holds the groups `gid`: which sorted pairs lie in different groups, which node is in which
    group, each node's group, and the sorted pairs. -/
structure Carries (S : Node → Node → EReal) (gid : Node → Node) (b : Fin 8) (s : State Ideal) : Prop where
  apart : ∀ p : Fin 32640, s.main_v38_7 (ix2 b p) = BitVec.ofBool (decide (gid (ranked S p).1 ≠ gid (ranked S p).2))
  member : ∀ g n : Node, s.main_v38_8 (ix3 b g n) = BitVec.ofBool (decide (gid n = g))
  label : ∀ n : Node, s.main_v38_9 (ix2 b n) = word (gid n).val
  fst : ∀ p : Fin 32640, s.main_v38_1 (ix2 b p) = word (ranked S p).1.val
  snd : ∀ p : Fin 32640, s.main_v38_2 (ix2 b p) = word (ranked S p).2.val
  place : ∀ p : Fin 32640, s.main_v38_4 (ix2 b p) = word (lin (ranked S p).1 (ranked S p).2)

/-- The best pair is the first of the sorted pairs that lies in different groups. -/
theorem Best.first {S : Node → Node → EReal} {gid : Node → Node} {i j : Node} (h : Best S gid i j) :
    ∃ p₀ : Fin 32640, ranked S p₀ = (i, j) ∧ ∀ p, gid (ranked S p).1 ≠ gid (ranked S p).2 → p₀ ≤ p := by
  obtain ⟨p₀, h₀⟩ := ranked_surj S i j h.lt
  refine ⟨p₀, h₀, fun p hp => ?_⟩
  by_contra hlt
  have ho := ranked_order S (not_le.1 hlt)
  rw [h₀] at ho
  rcases h.best _ _ (ranked_lt S p) hp with h1 | ⟨h1, h2⟩
  · rcases ho with h3 | ⟨h3, _⟩
    · exact absurd h3 (not_lt.2 h1.le)
    · exact absurd h3 (ne_of_lt h1)
  · rcases ho with h3 | ⟨_, h3⟩
    · exact absurd h1 (ne_of_gt h3)
    · exact absurd h2 (not_le.2 h3)

section Trip

variable {S : Node → Node → EReal} {gid : Node → Node} {b : Fin 8} {s : State Ideal} {i j : Node} {p₀ : Fin 32640} {t : ℕ}

/-- The position of the best pair. -/
theorem b7_eq (hs : Carries S gid b s) (hb : Best S gid i j) (h₀ : ranked S p₀ = (i, j))
    (hmin : ∀ p, gid (ranked S p).1 ≠ gid (ranked S p).2 → p₀ ≤ p) : b7 t s (ix1 b) = word p₀.val := by
  have hf : ∀ p : Fin 32640, Scalar.select (s.main_v38_7 (ix2 b p)) (BitVec.ofNat 32 p.val) 32639#32
      = if gid (ranked S p).1 ≠ gid (ranked S p).2 then word p.val else word 32639 := fun p => by
    rw [hs.apart, select_ofBool]
  pointwise [b7, b6, b5, b4, b3, b2, K_main_v3]
  simp only [hf]
  refine fold_minsi p₀ ?_ ?_ fun p => ?_
  · rw [if_pos (by rw [h₀]; exact hb.ne)]
  · rw [word_toInt (by omega)]
    show (p₀.val : ℤ) ≤ 2147483647
    omega
  · split
    · next h => rw [word_toInt (by omega), word_toInt (by omega)]; exact_mod_cast hmin p h
    · rw [word_toInt (by omega), word_toInt (by omega)]; omega

theorem b10_eq (hs : Carries S gid b s) (h₀ : ranked S p₀ = (i, j)) (h7 : b7 t s (ix1 b) = word p₀.val) :
    b10 t s (ix2 b 0) = word i.val := by
  have h9 : b9 t s (ix3 b 0 0) = word p₀.val := by
    pointwise [b9, b8]
    exact h7
  unfold b10
  rw [take_first _ _ b p₀ h9, hs.fst, h₀]

theorem b12_eq (hs : Carries S gid b s) (h₀ : ranked S p₀ = (i, j)) (h7 : b7 t s (ix1 b) = word p₀.val) :
    b12 t s (ix2 b 0) = word j.val := by
  have h11 : b11 t s (ix3 b 0 0) = word p₀.val := by
    pointwise [b11, b8]
    exact h7
  unfold b12
  rw [take_first _ _ b p₀ h11, hs.snd, h₀]

/-- The first group's label. -/
theorem b14_eq (hs : Carries S gid b s) (h10 : b10 t s (ix2 b 0) = word i.val) : b14 t s (ix2 b 0) = word (gid i).val := by
  have h13 : b13 t s (ix3 b 0 0) = word i.val := by
    pointwise [b13]
    exact h10
  unfold b14
  rw [take_node _ _ b i h13, hs.label]

/-- The second group's label. -/
theorem b16_eq (hs : Carries S gid b s) (h12 : b12 t s (ix2 b 0) = word j.val) : b16 t s (ix2 b 0) = word (gid j).val := by
  have h15 : b15 t s (ix3 b 0 0) = word j.val := by
    pointwise [b15]
    exact h12
  unfold b16
  rw [take_node _ _ b j h15, hs.label]

/-- The first group's nodes. -/
theorem b18_eq (hs : Carries S gid b s) (h14 : b14 t s (ix2 b 0) = word (gid i).val) (n : Node) :
    b18 t s (ix3 b 0 n) = BitVec.ofBool (decide (gid n = gid i)) := by
  have h17 : b17 t s (ix3 b 0 0) = word (gid i).val := by
    pointwise [b17]
    exact h14
  unfold b18
  rw [take_row _ _ b n (gid i) h17, hs.member]

theorem ori_decide (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

/-- The new labels. -/
theorem b28_eq (hs : Carries S gid b s) (h16 : b16 t s (ix2 b 0) = word (gid j).val)
    (h18 : ∀ n, b18 t s (ix3 b 0 n) = BitVec.ofBool (decide (gid n = gid i))) (n : Node) :
    b28 t s (ix2 b n) = word (merge gid i j n).val := by
  pointwise [b28, b27, b26]
  rw [h18, h16, hs.label, select_ofBool]
  unfold merge
  split <;> rfl

/-- The new groups. -/
theorem b35_eq (hs : Carries S gid b s) (hb : Best S gid i j) (h14 : b14 t s (ix2 b 0) = word (gid i).val)
    (h16 : b16 t s (ix2 b 0) = word (gid j).val) (h18 : ∀ n, b18 t s (ix3 b 0 n) = BitVec.ofBool (decide (gid n = gid i))) (g n : Node) :
    b35 t s (ix3 b g n) = BitVec.ofBool (decide (merge gid i j n = g)) := by
  pointwise [b35, b34, b33, b32, b31, b30, b29, b25, b24, b23, b22, b21, b20, b19, K_main_v2]
  rw [h14, h16, h18, hs.member, cmpi_eq_word, cmpi_eq_word, ori_decide, select_ofBool, select_ofBool]
  have hne := hb.ne
  unfold merge
  by_cases h1 : g = gid i
  · subst h1
    rw [if_pos rfl]
    by_cases h2 : gid n = gid i
    · rw [if_pos h2, decide_eq_false (fun h => hne h.symm)]; rfl
    · rw [if_neg h2, decide_eq_false h2]; rfl
  · rw [if_neg h1]
    by_cases h2 : g = gid j
    · subst h2
      rw [if_pos rfl]
      by_cases h3 : gid n = gid i
      · simp [h3]
      · simp [h3]
    · rw [if_neg h2]
      by_cases h3 : gid n = gid i
      · rw [if_pos h3, h3]; simp [Ne.symm h1, Ne.symm h2]
      · rw [if_neg h3]

/-- The pairs of nodes in the joined group. -/
theorem b43_eq (h16 : b16 t s (ix2 b 0) = word (gid j).val)
    (h35 : ∀ g n, b35 t s (ix3 b g n) = BitVec.ofBool (decide (merge gid i j n = g))) (a c : Node) :
    b43 t s (ix3 b a c) = BitVec.ofBool (decide (merge gid i j c = gid j ∧ merge gid i j a = gid j)) := by
  have h36 : b36 t s (ix3 b 0 0) = word (gid j).val := by
    pointwise [b36]
    exact h16
  have h37 : ∀ n, b37 t s (ix3 b 0 n) = BitVec.ofBool (decide (merge gid i j n = gid j)) := fun n => by
    unfold b37
    rw [take_row _ _ b n (gid j) h36, h35]
  pointwise [b43, b42, b41, b40, b39, b38]
  rw [h37, h37, andi_decide]

theorem b46_eq (hs : Carries S gid b s)
    (h43 : ∀ a c, b43 t s (ix3 b a c) = BitVec.ofBool (decide (merge gid i j c = gid j ∧ merge gid i j a = gid j))) (p : Fin 32640) :
    b46 t s (ix2 b p) = BitVec.ofBool (decide (merge gid i j (ranked S p).2 = gid j ∧ merge gid i j (ranked S p).1 = gid j)) := by
  have h45 : b45 t s (ix3 b p 0) = word (pos (ranked S p)).val := by
    pointwise [b45]
    exact hs.place p
  have h44 : ∀ q : Fin 65536, b44 t s (ix2 b q) = b43 t s (ix3 b (pairAt q).1 (pairAt q).2) := fun q => by
    pointwise [b44]
    rfl
  unfold b46
  rw [take_flat _ _ b p (pos (ranked S p)) h45, h44, pairAt_pos, h43]

theorem noti_at (y : IVec S8x32640 1) (k : S8x32640.Idx) : noti y k = ~~~(y k) := rfl
theorem andi_at (y z : IVec S8x32640 1) (k : S8x32640.Idx) : andi y z k = IntOp.andi (y k) (z k) := rfl

/-- The sorted pairs that still lie in different groups. -/
theorem b48_eq (hs : Carries S gid b s)
    (h46 : ∀ p, b46 t s (ix2 b p) = BitVec.ofBool (decide (merge gid i j (ranked S p).2 = gid j ∧ merge gid i j (ranked S p).1 = gid j)))
    (p : Fin 32640) :
    b48 t s (ix2 b p) = BitVec.ofBool (decide (merge gid i j (ranked S p).1 ≠ merge gid i j (ranked S p).2)) := by
  have hnot : ∀ (q : Prop) [Decidable q], ~~~(BitVec.ofBool (decide q)) = BitVec.ofBool (decide (¬ q)) := fun q _ => by
    by_cases h : q <;> simp [h]
  unfold b48 b47
  rw [andi_at, noti_at, h46, hs.apart, hnot, andi_decide]
  congr 1
  rw [decide_eq_decide]
  constructor
  · rintro ⟨h1, h2⟩ h3
    exact h2 (merge_eq h3 h1).symm
  · intro h
    exact ⟨merge_ne h, fun h' => h (h'.2.trans h'.1.symm)⟩

/-- A trip takes the groups `gid` to the groups with the best pair's merged. -/
theorem Carries.step (hs : Carries S gid b s) (hb : Best S gid i j) : Carries S (merge gid i j) b (Step.step t s) := by
  obtain ⟨p₀, h₀, hmin⟩ := hb.first
  have h7 := b7_eq (t := t) hs hb h₀ hmin
  have h14 := b14_eq hs (b10_eq hs h₀ h7)
  have h16 := b16_eq hs (b12_eq hs h₀ h7)
  have h18 := b18_eq hs h14
  have h35 := b35_eq hs hb h14 h16 h18
  exact ⟨fun p => by rw [step_main_v38_7]; exact b48_eq hs (b46_eq hs (b43_eq h16 h35)) p,
    fun g n => by rw [step_main_v38_8]; exact h35 g n,
    fun n => by rw [step_main_v38_9]; exact b28_eq hs h16 h18 n, hs.fst, hs.snd, hs.place⟩

end Trip

/-- The first state: every node is a group of its own. -/
theorem carries_init (x : S8x256x384.Idx → EReal) (b : Fin 8) : Carries (score (rowsOf x b)) id b (init (F := Ideal) x) where
  apart p := by
    show K_main_v34 (F := Ideal) (ix2 b p) = _
    rw [decide_eq_true (show id (ranked (score (rowsOf x b)) p).1 ≠ id (ranked (score (rowsOf x b)) p).2 from ne_of_lt (ranked_lt _ p))]
    pointwise [K_main_v34, K_main_c_3]
    rfl
  member g n := v37_eq b g n
  label n := by
    show K_main_v2 (F := Ideal) (ix2 b n) = _
    pointwise [K_main_v2]
    rfl
  fst p := v31_eq x b p
  snd p := v33_eq x b p
  place p := v29_eq x b p

/-- The reference's states. -/
def refState (x : S8x256x384.Idx → EReal) : ℕ → State Ideal
  | 0 => init x
  | n + 1 => Step.step n (refState x n)

/-- Through all 64 trips the reference's states hold the groups of the greedy steps. -/
theorem carries_ref (x : S8x256x384.Idx → EReal) (b : Fin 8) :
    ∀ t ≤ 64, Carries (score (rowsOf x b)) (gids (score (rowsOf x b)) t) b (refState x t)
  | 0, _ => carries_init x b
  | t + 1, ht => by
    obtain ⟨i, j, hb, -⟩ := Above.best (above_score (rowsOf x b)) (show t < 64 by omega)
    show Carries _ (next _ _) b (Step.step t (refState x t))
    rw [next_eq hb]
    exact (carries_ref x b t (by omega)).step hb

end Cert.Greedy

end
-- ==== Proof.RefEnd.lean ====
/-
  The reference's ending, read at an index: the labels in use in increasing order, the sizes of the first 192 groups and the means
  of their rows.
-/
module

public import proofs.«01_k».proof.Proof.RefStep
public import proofs.«01_k».proof.Proof.Final

@[expose] public section

set_option maxRecDepth 16384

noncomputable section

namespace Cert.Greedy

open Idealize.ShloMosaic Cert.ReferenceIdeal Cert.ReferenceIdeal.Gen Cert.ReferenceIdeal.Step

/-- Sorting points so that those of `P` come first leaves, in a place that is less than the number of points of `P`, a point of `P`
    with as many points of `P` below it as there are places before. -/
theorem sorted_rank {n : ℕ} (P : Finset (Fin n)) {B : Fin n → Fin n → Bool} (hB : ∀ k k', B k k' = decide (k ∈ P ∧ k' ∉ P))
    {r : Fin n} (hr : r.val < P.card) : sortedFrom B r ∈ P ∧ (P.filter fun h => h < sortedFrom B r).card = r.val := by
  have hs : ∀ p q : Fin n, p < q → ¬ (sortedFrom B q ∈ P ∧ sortedFrom B p ∉ P)
      ∧ ((sortedFrom B p ∈ P ∧ sortedFrom B q ∉ P) ∨ sortedFrom B p < sortedFrom B q) := fun p q h => by
    have has : ∀ a b, B a b = true → B b a = false := fun a b h => by
      rw [hB, decide_eq_true_eq] at h
      rw [hB, decide_eq_false_iff_not]
      exact fun h' => h.2 h'.1
    have hneg : ∀ a b c, B a b = false → B b c = false → B a c = false := fun a b c h h' => by
      rw [hB, decide_eq_false_iff_not] at h h' ⊢
      rintro ⟨h1, h2⟩
      by_cases hb : b ∈ P
      · exact h' ⟨hb, h2⟩
      · exact h ⟨h1, hb⟩
    have hst := sorted_stands has hneg h
    rw [hB, hB, decide_eq_false_iff_not, decide_eq_true_eq] at hst
    exact hst
  have hsurj : Function.Surjective (sortedFrom B) := sortedFrom_surjective B
  have hinj : Function.Injective (sortedFrom B) := sortedFrom_injective B
  generalize sortedFrom B = s at hs hsurj hinj ⊢
  have hcard : (Finset.univ.filter fun p => s p ∈ P).card = P.card := by
    have himg : (Finset.univ.filter fun p => s p ∈ P).image s = P := by
      ext g
      rw [Finset.mem_image]
      constructor
      · rintro ⟨p, hp, rfl⟩; exact (Finset.mem_filter.1 hp).2
      · intro hg
        obtain ⟨p, rfl⟩ := hsurj g
        exact ⟨p, Finset.mem_filter.2 ⟨Finset.mem_univ _, hg⟩, rfl⟩
    rw [← Finset.card_image_of_injective _ hinj, himg]
  have hdown : ∀ p q : Fin n, p < q → q ∈ (Finset.univ.filter fun p => s p ∈ P) → p ∈ (Finset.univ.filter fun p => s p ∈ P) :=
    fun p q h hq => by
      refine Finset.mem_filter.2 ⟨Finset.mem_univ _, ?_⟩
      by_contra hp
      exact (hs p q h).1 ⟨(Finset.mem_filter.1 hq).2, hp⟩
  have hin : ∀ p : Fin n, p.val < P.card → s p ∈ P := fun p h => by
    rw [← hcard] at h
    exact (Finset.mem_filter.1 ((mem_iff_lt_card hdown p).2 h)).2
  have hr' := hin r hr
  refine ⟨hr', ?_⟩
  have himg : P.filter (fun h => h < s r) = (Finset.Iio r).image s := by
    ext h
    rw [Finset.mem_filter, Finset.mem_image]
    constructor
    · rintro ⟨h1, h2⟩
      obtain ⟨p, rfl⟩ := hsurj h
      refine ⟨p, Finset.mem_Iio.2 ?_, rfl⟩
      rcases lt_trichotomy p r with h3 | h3 | h3
      · exact h3
      · rw [h3] at h2; exact absurd h2 (lt_irrefl _)
      · rcases (hs r p h3).2 with h4 | h4
        · exact absurd h1 h4.2
        · exact absurd (h2.trans h4) (lt_irrefl _)
    · rintro ⟨p, hp, rfl⟩
      have hlt := Finset.mem_Iio.1 hp
      refine ⟨hin p (lt_trans (Fin.lt_def.1 hlt) hr), ?_⟩
      rcases (hs p r hlt).2 with h4 | h4
      · exact absurd hr' h4.2
      · exact h4
  rw [himg, Finset.card_image_of_injective _ hinj, Fin.card_Iio]

/-- Which labels are not in use. -/
def unused (u : IVec S8x256x256 1) : IVec S8x256 1 :=
  noti (cmpi .sgt (Host.reduce IntOp.addi (extui 32 u natLt_1_32) (constantI S_ 32 0#32) reducesTo_S8x256x256_S8x256_d2 h_S_)
    (broadcastInDim S8x256 ![] bcast_S_S8x256 (constantI S_ 32 0#32)))

/-- The first 192 labels in use. -/
def kept (u : IVec S8x256x256 1) : IVec S8x192 32 :=
  extractStridedSlice S8x192 ![0, 0] ((Host.sort2 S8x256 1 comparator_i1_i32_d1 (unused u) (iotaInDim S8x256 32 1)).2) slices_S8x256_S8x192_0_0

/-- Their groups. -/
def groups (u : IVec S8x256x256 1) : IVec S8x192x256 1 :=
  Host.gather gather_S8x256x256_S8x192x1_S8x192x256_2_1_0_0_1_2_11256 u (broadcastInDim S8x192x1 ![0, 1] bcast_S8x192_S8x192x1_0_1 (kept u))

/-- The groups' sizes. -/
def sizes (w : IVec S8x192x256 1) : IVec S8x192 32 :=
  Host.reduce IntOp.addi (extui 32 w natLt_1_32) (constantI S_ 32 0#32) reducesTo_S8x192x256_S8x192_d2 h_S_

/-- The means of the groups' rows. -/
def means (w : IVec S8x192x256 1) (c : IVec S8x192 32) (v : FVec Ideal S8x256x384 .f32) : FVec Ideal S8x192x384 .f32 :=
  Host.dotGeneral (F := Ideal) dot_S8x192x256_S8x256x384_S8x192x384_2_1_1_2_0_0 none
    (Host.divf (uitofp .f32 w)
      (broadcastInDim S8x192x256 ![0, 1, 2] bcast_S8x192x1_S8x192x256_0_1_2 (sitofp .f32 (broadcastInDim S8x192x1 ![0, 1] bcast_S8x192_S8x192x1_0_1 c)))) v

theorem R_sizes (s : State Ideal) : R_main_v49 s = sizes (groups s.main_v38_8) := rfl

theorem R_means (s : State Ideal) (v : S8x256x384.Idx → EReal) :
    R_main_v55 s v = means (groups s.main_v38_8) (sizes (groups s.main_v38_8)) v := rfl

/-- A bit as a number, read without a sign. -/
theorem uitofp_bit (p : Prop) [Decidable p] : FloatOps.uitofp (F := Ideal) .f32 (BitVec.ofBool (decide p)) = ind p := by
  show (((((BitVec.ofBool (decide p)).toNat : ℕ) : ℝ)) : EReal) = _
  by_cases h : p
  · simp [ind, h]
  · simp [ind, h]

theorem not_at (y : IVec S8x256 1) (k : S8x256.Idx) : noti y k = ~~~(y k) := rfl

variable {gid : Node → Node} {b : Fin 8} {u : IVec S8x256x256 1} (hu : ∀ g n : Node, u (ix3 b g n) = BitVec.ofBool (decide (gid n = g)))

include hu

/-- A label's bit is set when no node carries it. -/
theorem unused_eq (g : Node) : unused u (ix2 b g) = BitVec.ofBool (decide (g ∉ labels gid)) := by
  unfold unused
  refine (not_at _ _).trans ?_
  pointwise
  simp only [hu]
  rw [fold_addi_count]
  refine (congrArg (fun x => ~~~x) (cmpi_sgt_word (a := count gid g) (b := 0)
    (lt_of_le_of_lt (count_le gid g) (by norm_num)) (by norm_num))).trans ?_
  by_cases h : g ∈ labels gid
  · simp [h, count_pos.2 h]
  · have h0 : ¬ 0 < count gid g := fun h' => h (count_pos.1 h')
    simp only [h, h0, decide_false, not_false_eq_true, decide_true]
    rfl

/-- Sorting by that bit puts a label in use before one that is not. -/
theorem comparator_used (k k' : Node) :
    (comparator_i1_i32_d1 (unused u (ix2 b k), iotaInDim S8x256 32 1 (ix2 b k)) (unused u (ix2 b k'), iotaInDim S8x256 32 1 (ix2 b k')) == 1#1)
      = decide (k ∈ labels gid ∧ k' ∉ labels gid) := by
  unfold comparator_i1_i32_d1
  dsimp only
  rw [unused_eq hu, unused_eq hu]
  by_cases h : k ∈ labels gid <;> by_cases h' : k' ∈ labels gid <;> simp [h, h', IntOp.cmpi]

variable {r : Fin 192} {L : Node} (hL : IsNth gid r.val L) (hc : 192 ≤ (labels gid).card)

include hL hc

/-- In place `r` stands the label of rank `r`, -/
theorem kept_eq : kept u (ix2 b r) = word L.val := by
  have hr : r.val < 256 := by omega
  have e : kept u (ix2 b r) = (Host.sort2 S8x256 1 comparator_i1_i32_d1 (unused u) (iotaInDim S8x256 32 1)).2 (ix2 b ⟨r.val, hr⟩) := by
    pointwise [kept]
  rw [e]
  refine (sort2_row comparator_i1_i32_d1 (unused u) (iotaInDim S8x256 32 1) b ⟨r.val, hr⟩).trans ?_
  have hnth : IsNth gid r.val (sortedFrom _ ⟨r.val, hr⟩) := sorted_rank (labels gid) (comparator_used hu) (lt_of_lt_of_le r.isLt hc)
  rw [hnth.unique hL]
  pointwise

/-- its group, -/
theorem groups_eq (n : Node) : groups u (ix3 b r n) = BitVec.ofBool (decide (gid n = L)) := by
  unfold groups
  rw [take_rows _ _ b r n L, hu]
  pointwise
  exact kept_eq hu hL hc

/-- and the number of its rows. -/
theorem sizes_eq : sizes (groups u) (ix2 b r) = word (count gid L) := by
  pointwise [sizes]
  simp only [groups_eq hu hL hc]
  exact fold_addi_count _

/-- The mean of the rows of that group. -/
theorem means_eq (v : S8x256x384.Idx → EReal) (d : Fin 384) :
    means (groups u) (sizes (groups u)) v (ix3 b r d) = mean gid L (fun n => v (ix3 b n d)) := by
  pointwise [means]
  simp only [groups_eq hu hL hc, sizes_eq hu hL hc]
  rw [sitofp_word (lt_of_le_of_lt (count_le gid L) (by norm_num))]
  simp only [uitofp_bit]
  exact mean_eq hL.1 _

omit hu hL hc

/-- After all trips the labels in use are enough for every place. -/
theorem enough (S : Node → Node → EReal) : 192 ≤ (labels (gids S 64)).card := card_gids S 64

/-- The reference's first result: the mean of the rows of the group in place `r`. -/
theorem refOut_eq (x v : S8x256x384.Idx → EReal) (b : Fin 8) (r : Fin 192) (d : Fin 384) :
    R_main_v55 (refState x 64) v (ix3 b r d)
      = mean (gids (score (rowsOf x b)) 64) (nth (score (rowsOf x b)) r) (fun n => rowsOf v b n d) := by
  rw [R_means]
  exact means_eq (carries_ref x b 64 le_rfl).member (nth_spec _ r) (enough _) v d

/-- The reference's second result: the number of rows of that group. -/
theorem refSizes_eq (x : S8x256x384.Idx → EReal) (b : Fin 8) (r : Fin 192) :
    R_main_v49 (refState x 64) (ix2 b r) = word (count (gids (score (rowsOf x b)) 64) (nth (score (rowsOf x b)) r)) := by
  rw [R_sizes]
  exact sizes_eq (carries_ref x b 64 le_rfl).member (nth_spec _ r) (enough _)

end Cert.Greedy

end
-- ==== Proof.Results.lean ====
/-
  The kernel and the reference have the same two results.
-/
module

public import proofs.«01_k».proof.Defs
public import proofs.«01_k».proof.Proof.KernelValue
public import proofs.«01_k».proof.Proof.RefEnd
public import proofs.«01_k».proof.Proof.Gen.ReferenceIdeal.StepRun

@[expose] public section

set_option maxRecDepth 16384

noncomputable section

namespace Cert.Greedy

open Idealize.ShloMosaic Idealize.ShloMosaic.TcCoe Idealize.SL.Sem

/-- The means agree, -/
theorem out_agree (m : (ℓ : Loc Cert.KernelIdeal.nD Cert.KernelIdeal.τ Cert.KernelIdeal.sig) → Buf (Elt Ideal) ℓ) (c : Dev Cert.KernelIdeal.nD) :
    Cert.ReferenceIdeal.Step.R_main_v55 (refState (m ((c : Thread Cert.KernelIdeal.nD Cert.KernelIdeal.τ).loc Cert.KernelIdeal.main_arg0)) 64)
        (m ((c : Thread Cert.KernelIdeal.nD Cert.KernelIdeal.τ).loc Cert.KernelIdeal.main_arg1))
      = kernelOut (whole2 m c) := by
  funext j
  rw [eq_ix3 (n0 := 8) (n1 := 192) (n2 := 384) j]
  exact (refOut_eq _ _ _ _ _).trans (kernelOut_eq m c _ _ _).symm

/-- and so do the sizes. -/
theorem sizes_agree (m : (ℓ : Loc Cert.KernelIdeal.nD Cert.KernelIdeal.τ Cert.KernelIdeal.sig) → Buf (Elt Ideal) ℓ) (c : Dev Cert.KernelIdeal.nD) :
    Cert.ReferenceIdeal.Step.R_main_v49 (refState (m ((c : Thread Cert.KernelIdeal.nD Cert.KernelIdeal.τ).loc Cert.KernelIdeal.main_arg0)) 64)
      = kernelSizes (whole3 m c) := by
  funext j
  rw [eq_ix2 (n0 := 8) (n1 := 192) j]
  exact (refSizes_eq _ _ _).trans (kernelSizes_eq m c _ _).symm

/-- From memories that agree on the arguments, the kernel and the reference end with equal results and unchanged arguments. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => kernelOut (whole2 m c), fun c => kernelSizes (whole3 m c), kernel_run m ρ, ?_⟩
  refine (θ_run Cert.ReferenceIdeal.defs _ _).mono (fun r h c => ?_)
    (Cert.ReferenceIdeal.StepRun.run_iter (F := Ideal) m' ρ'
      (fun c => refState (m' ((c : Thread Cert.ReferenceIdeal.nD Cert.ReferenceIdeal.τ).loc Cert.ReferenceIdeal.main_arg0)))
      (fun c => rfl) (fun c n => rfl))
  obtain ⟨h0, h1, h2, h3⟩ := h c
  obtain ⟨a0, a1⟩ := hagree c
  rw [a0, a1] at h0
  rw [a0] at h1
  exact ⟨h0.trans (out_agree m c), h1.trans (sizes_agree m c), h2, h3⟩

end Cert.Greedy

end
-- ==== Proof.lean ====
/- The claims about the three programs: their frames, and the equality of the kernel's and the reference's results. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Results
public import Idealize.ShloMosaic.Lib.Quiescent
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => (θ_run Cert.ReferenceIdeal.defs _ _).mono (fun r h => ⟨fun c => (h c).2.2,
      Idealize.ShloMosaic.sem_eq_zero_of_no_sems (by decide) r.2⟩) (Cert.ReferenceIdeal.Value.run (F := Ideal) m ρ),
  trivial, Cert.Greedy.algebraic⟩

end Cert.Proof

end
